-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_bounded [hPre_scores_bounded : Cert.Pre_scores_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_scores_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_bounded [hPre_scores_bounded : Cert.Pre_scores_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_scores_bounded [hKernelIdeal : Cert.KernelIdeal.Facts] [hPre_scores_bounded : Cert.Pre_scores_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_scores_bounded [hReferenceIdeal : Cert.ReferenceIdeal.Facts] [hPre_scores_bounded : Cert.Pre_scores_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "score_scale" .f32 0x3E553B95#32 (((Real.sqrt 48)⁻¹ * (Real.log 2)⁻¹ : ℝ) : EReal)

def algebraic_KernelIdeal_ReferenceIdeal_pre_scores_bounded [hKernelIdeal : Cert.KernelIdeal.Facts] [hReferenceIdeal : Cert.ReferenceIdeal.Facts] [hPre_scores_bounded : Cert.Pre_scores_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_scores_bounded : Cert.Pre_scores_bounded.Facts),
    quiescent_Kernel (hKernel := hKernel)
    ∧ quiescent_KernelIdeal (hKernelIdeal := hKernelIdeal)
    ∧ quiescent_KernelIdeal_pre_scores_bounded (hKernelIdeal := hKernelIdeal) (hPre_scores_bounded := hPre_scores_bounded)
    ∧ quiescent_ReferenceIdeal (hReferenceIdeal := hReferenceIdeal)
    ∧ quiescent_ReferenceIdeal_pre_scores_bounded (hReferenceIdeal := hReferenceIdeal) (hPre_scores_bounded := hPre_scores_bounded)
    ∧ preserves_Kernel_KernelIdeal
    ∧ algebraic_KernelIdeal_ReferenceIdeal_pre_scores_bounded (hKernelIdeal := hKernelIdeal) (hReferenceIdeal := hReferenceIdeal) (hPre_scores_bounded := hPre_scores_bounded)
-- ==== Pre_scores_bounded.lean ====
abbrev S4x1024x384 : Shape := ⟨3, ![4, 1024, 384]⟩
abbrev S384 : Shape := ⟨1, ![384]⟩
abbrev S384x1x3x3 : Shape := ⟨4, ![384, 1, 3, 3]⟩
abbrev S1152x384 : Shape := ⟨2, ![1152, 384]⟩
abbrev S384x384 : Shape := ⟨2, ![384, 384]⟩
abbrev S1536x384 : Shape := ⟨2, ![1536, 384]⟩
abbrev S1536 : Shape := ⟨1, ![1536]⟩
abbrev S384x1536 : Shape := ⟨2, ![384, 1536]⟩
abbrev S_ : Shape := ⟨0, ![]⟩
abbrev S4x1024 : Shape := ⟨2, ![4, 1024]⟩
abbrev S4x1024x1 : Shape := ⟨3, ![4, 1024, 1]⟩
abbrev S1x1x384 : Shape := ⟨3, ![1, 1, 384]⟩
abbrev S4x32x32x384 : Shape := ⟨4, ![4, 32, 32, 384]⟩
abbrev S4x384x32x32 : Shape := ⟨4, ![4, 384, 32, 32]⟩
abbrev S4x384x34x34 : Shape := ⟨4, ![4, 384, 34, 34]⟩
abbrev S384x1x1x1 : Shape := ⟨4, ![384, 1, 1, 1]⟩
abbrev S1x384x1x1 : Shape := ⟨4, ![1, 384, 1, 1]⟩
abbrev S4x32x32 : Shape := ⟨3, ![4, 32, 32]⟩
abbrev S4x32x32x1 : Shape := ⟨4, ![4, 32, 32, 1]⟩
abbrev S1x1x1x384 : Shape := ⟨4, ![1, 1, 1, 384]⟩
abbrev S384x1152 : Shape := ⟨2, ![384, 1152]⟩
abbrev S4x1024x1152 : Shape := ⟨3, ![4, 1024, 1152]⟩
abbrev S4x1024x3x8x48 : Shape := ⟨5, ![4, 1024, 3, 8, 48]⟩
abbrev S3x4x8x1024x48 : Shape := ⟨5, ![3, 4, 8, 1024, 48]⟩
abbrev S1x4x8x1024x48 : Shape := ⟨5, ![1, 4, 8, 1024, 48]⟩
abbrev S4x8x1024x48 : Shape := ⟨4, ![4, 8, 1024, 48]⟩
abbrev S4x8x1024x1024 : Shape := ⟨4, ![4, 8, 1024, 1024]⟩

class Facts : Prop where
  reducesTo_S4x1024x384_S4x1024_d2 : S4x1024x384.ReducesTo [2] S4x1024
  h_S_ : 0 < S_.numel
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x384_0_1_2 : S4x1024x1.BroadcastsInDim S4x1024x384 (![0, 1, 2] : Fin 3 → Fin S4x1024x384.rank)
  bcast_S384_S1x1x384_2 : S384.BroadcastsInDim S1x1x384 (![2] : Fin 1 → Fin S1x1x384.rank)
  bcast_S1x1x384_S4x1024x384_0_1_2 : S1x1x384.BroadcastsInDim S4x1024x384 (![0, 1, 2] : Fin 3 → Fin S4x1024x384.rank)
  shapeCasts_S4x1024x384_S4x32x32x384 : S4x1024x384.ShapeCasts S4x32x32x384
  transposes_S4x32x32x384_S4x384x32x32_0_3_1_2 : S4x32x32x384.Transposes [0, 3, 1, 2] S4x384x32x32
  pads_S4x384x32x32_S4x384x34x34_000_000_110_110 : S4x384x32x32.Pads (![0, 0, 1, 1] : Fin 4 → Nat) ![0, 0, 1, 1] ![0, 0, 0, 0] S4x384x34x34
  bcast_S_S4x384x32x32 : S_.BroadcastsInDim S4x384x32x32 (![] : Fin 0 → Fin S4x384x32x32.rank)
  slices_S4x384x34x34_S4x384x32x32_0_0_0_0 : S4x384x34x34.Slices ![0, 0, 0, 0] S4x384x32x32
  slices_S384x1x3x3_S384x1x1x1_0_0_0_0 : S384x1x3x3.Slices ![0, 0, 0, 0] S384x1x1x1
  shapeCasts_S384x1x1x1_S384 : S384x1x1x1.ShapeCasts S384
  bcast_S384_S1x384x1x1_1 : S384.BroadcastsInDim S1x384x1x1 (![1] : Fin 1 → Fin S1x384x1x1.rank)
  bcast_S1x384x1x1_S4x384x32x32_0_1_2_3 : S1x384x1x1.BroadcastsInDim S4x384x32x32 (![0, 1, 2, 3] : Fin 4 → Fin S4x384x32x32.rank)
  slices_S4x384x34x34_S4x384x32x32_0_0_0_1 : S4x384x34x34.Slices ![0, 0, 0, 1] S4x384x32x32
  slices_S384x1x3x3_S384x1x1x1_0_0_0_1 : S384x1x3x3.Slices ![0, 0, 0, 1] S384x1x1x1
  slices_S4x384x34x34_S4x384x32x32_0_0_0_2 : S4x384x34x34.Slices ![0, 0, 0, 2] S4x384x32x32
  slices_S384x1x3x3_S384x1x1x1_0_0_0_2 : S384x1x3x3.Slices ![0, 0, 0, 2] S384x1x1x1
  slices_S4x384x34x34_S4x384x32x32_0_0_1_0 : S4x384x34x34.Slices ![0, 0, 1, 0] S4x384x32x32
  slices_S384x1x3x3_S384x1x1x1_0_0_1_0 : S384x1x3x3.Slices ![0, 0, 1, 0] S384x1x1x1
  slices_S4x384x34x34_S4x384x32x32_0_0_1_1 : S4x384x34x34.Slices ![0, 0, 1, 1] S4x384x32x32
  slices_S384x1x3x3_S384x1x1x1_0_0_1_1 : S384x1x3x3.Slices ![0, 0, 1, 1] S384x1x1x1
  slices_S4x384x34x34_S4x384x32x32_0_0_1_2 : S4x384x34x34.Slices ![0, 0, 1, 2] S4x384x32x32
  slices_S384x1x3x3_S384x1x1x1_0_0_1_2 : S384x1x3x3.Slices ![0, 0, 1, 2] S384x1x1x1
  slices_S4x384x34x34_S4x384x32x32_0_0_2_0 : S4x384x34x34.Slices ![0, 0, 2, 0] S4x384x32x32
  slices_S384x1x3x3_S384x1x1x1_0_0_2_0 : S384x1x3x3.Slices ![0, 0, 2, 0] S384x1x1x1
  slices_S4x384x34x34_S4x384x32x32_0_0_2_1 : S4x384x34x34.Slices ![0, 0, 2, 1] S4x384x32x32
  slices_S384x1x3x3_S384x1x1x1_0_0_2_1 : S384x1x3x3.Slices ![0, 0, 2, 1] S384x1x1x1
  slices_S4x384x34x34_S4x384x32x32_0_0_2_2 : S4x384x34x34.Slices ![0, 0, 2, 2] S4x384x32x32
  slices_S384x1x3x3_S384x1x1x1_0_0_2_2 : S384x1x3x3.Slices ![0, 0, 2, 2] S384x1x1x1
  transposes_S4x384x32x32_S4x32x32x384_0_2_3_1 : S4x384x32x32.Transposes [0, 2, 3, 1] S4x32x32x384
  reducesTo_S4x32x32x384_S4x32x32_d3 : S4x32x32x384.ReducesTo [3] S4x32x32
  bcast_S4x32x32_S4x32x32x1_0_1_2 : S4x32x32.BroadcastsInDim S4x32x32x1 (![0, 1, 2] : Fin 3 → Fin S4x32x32x1.rank)
  bcast_S_S4x32x32x1 : S_.BroadcastsInDim S4x32x32x1 (![] : Fin 0 → Fin S4x32x32x1.rank)
  bcast_S4x32x32x1_S4x32x32x384_0_1_2_3 : S4x32x32x1.BroadcastsInDim S4x32x32x384 (![0, 1, 2, 3] : Fin 4 → Fin S4x32x32x384.rank)
  bcast_S384_S1x1x1x384_3 : S384.BroadcastsInDim S1x1x1x384 (![3] : Fin 1 → Fin S1x1x1x384.rank)
  bcast_S1x1x1x384_S4x32x32x384_0_1_2_3 : S1x1x1x384.BroadcastsInDim S4x32x32x384 (![0, 1, 2, 3] : Fin 4 → Fin S4x32x32x384.rank)
  shapeCasts_S4x32x32x384_S4x1024x384 : S4x32x32x384.ShapeCasts S4x1024x384
  transposes_S1152x384_S384x1152_1_0 : S1152x384.Transposes [1, 0] S384x1152
  shapeCasts_S4x1024x1152_S4x1024x3x8x48 : S4x1024x1152.ShapeCasts S4x1024x3x8x48
  transposes_S4x1024x3x8x48_S3x4x8x1024x48_2_0_3_1_4 : S4x1024x3x8x48.Transposes [2, 0, 3, 1, 4] S3x4x8x1024x48
  slices_S3x4x8x1024x48_S1x4x8x1024x48_0_0_0_0_0 : S3x4x8x1024x48.Slices ![0, 0, 0, 0, 0] S1x4x8x1024x48
  shapeCasts_S1x4x8x1024x48_S4x8x1024x48 : S1x4x8x1024x48.ShapeCasts S4x8x1024x48
  slices_S3x4x8x1024x48_S1x4x8x1024x48_1_0_0_0_0 : S3x4x8x1024x48.Slices ![1, 0, 0, 0, 0] S1x4x8x1024x48
  slices_S3x4x8x1024x48_S1x4x8x1024x48_2_0_0_0_0 : S3x4x8x1024x48.Slices ![2, 0, 0, 0, 0] S1x4x8x1024x48
  bcast_S_S4x8x1024x1024 : S_.BroadcastsInDim S4x8x1024x1024 (![] : Fin 0 → Fin S4x8x1024x1024.rank)
  dot_S4x1024x384_S384x1152_S4x1024x1152_2_0_01_1_n_n_wf : DotDims.WF S4x1024x384 S384x1152 S4x1024x1152 [2] [0] [0, 1] [1] [] []
  dot_S4x8x1024x48_S4x8x1024x48_S4x8x1024x1024_3_3_2_2_01_01_wf : DotDims.WF S4x8x1024x48 S4x8x1024x48 S4x8x1024x1024 [3] [3] [2] [2] [0, 1] [0, 1]

variable [Facts]

def dot_S4x1024x384_S384x1152_S4x1024x1152_2_0_01_1_n_n : DotDims S4x1024x384 S384x1152 S4x1024x1152 where
  lhsContracting := [2]
  rhsContracting := [0]
  lhsNonContracting := [0, 1]
  rhsNonContracting := [1]
  lhsBatch := []
  rhsBatch := []
  wf := dot_S4x1024x384_S384x1152_S4x1024x1152_2_0_01_1_n_n_wf
def dot_S4x8x1024x48_S4x8x1024x48_S4x8x1024x1024_3_3_2_2_01_01 : DotDims S4x8x1024x48 S4x8x1024x48 S4x8x1024x1024 where
  lhsContracting := [3]
  rhsContracting := [3]
  lhsNonContracting := [2]
  rhsNonContracting := [2]
  lhsBatch := [0, 1]
  rhsBatch := [0, 1]
  wf := dot_S4x8x1024x48_S4x8x1024x48_S4x8x1024x1024_3_3_2_2_01_01_wf
def fn_part6 {F : FTy → Type} [FloatOps F] (main_arg7 : FVec F S1152x384 .f32) (main_v126 : FVec F S4x8x1024x48 .f32) (main_v128 : FVec F S4x8x1024x48 .f32) (main_v131 : FVec F S4x1024x384 .f32) : IVec S4x8x1024x1024 1 :=
  let main_v132 : FVec F S384x1152 .f32 := (transpose S384x1152 [1, 0] · transposes_S1152x384_S384x1152_1_0) main_arg7
  let main_v133 : FVec F S4x1024x1152 .f32 := (fun l r => Host.dotGeneral dot_S4x1024x384_S384x1152_S4x1024x1152_2_0_01_1_n_n none l r) main_v131 main_v132
  let main_v134 : FVec F S4x1024x3x8x48 .f32 := shapeCast S4x1024x3x8x48 main_v133 shapeCasts_S4x1024x1152_S4x1024x3x8x48
  let main_v135 : FVec F S3x4x8x1024x48 .f32 := (transpose S3x4x8x1024x48 [2, 0, 3, 1, 4] · transposes_S4x1024x3x8x48_S3x4x8x1024x48_2_0_3_1_4) main_v134
  let main_v136 : FVec F S1x4x8x1024x48 .f32 := (extractStridedSlice S1x4x8x1024x48 ![0, 0, 0, 0, 0] · slices_S3x4x8x1024x48_S1x4x8x1024x48_0_0_0_0_0) main_v135
  let main_v137 : FVec F S4x8x1024x48 .f32 := shapeCast S4x8x1024x48 main_v136 shapeCasts_S1x4x8x1024x48_S4x8x1024x48
  let main_v138 : FVec F S1x4x8x1024x48 .f32 := (extractStridedSlice S1x4x8x1024x48 ![1, 0, 0, 0, 0] · slices_S3x4x8x1024x48_S1x4x8x1024x48_1_0_0_0_0) main_v135
  let main_v139 : FVec F S4x8x1024x48 .f32 := shapeCast S4x8x1024x48 main_v138 shapeCasts_S1x4x8x1024x48_S4x8x1024x48
  let main_v140 : FVec F S1x4x8x1024x48 .f32 := (extractStridedSlice S1x4x8x1024x48 ![2, 0, 0, 0, 0] · slices_S3x4x8x1024x48_S1x4x8x1024x48_2_0_0_0_0) main_v135
  let main_v141 : FVec F S4x8x1024x48 .f32 := shapeCast S4x8x1024x48 main_v140 shapeCasts_S1x4x8x1024x48_S4x8x1024x48
  let main_v142 : FVec F S4x8x1024x1024 .f32 := (fun l r => Host.dotGeneral dot_S4x8x1024x48_S4x8x1024x48_S4x8x1024x1024_3_3_2_2_01_01 none l r) main_v126 main_v128
  let main_v143 : FVec F S4x8x1024x1024 .f32 := (fun l r => Host.dotGeneral dot_S4x8x1024x48_S4x8x1024x48_S4x8x1024x1024_3_3_2_2_01_01 none l r) main_v137 main_v139
  let main_v144 : FVec F S4x8x1024x1024 .f32 := Host.absf main_v142
  let main_cst_11 : FVec F S_ .f32 := constant S_ .f32 0x44040000#32
  let main_v145 : FVec F S4x8x1024x1024 .f32 := broadcastInDim S4x8x1024x1024 ![] bcast_S_S4x8x1024x1024 main_cst_11
  let main_v146 : IVec S4x8x1024x1024 1 := cmpf .ole main_v144 main_v145
  let main_v147 : FVec F S4x8x1024x1024 .f32 := Host.absf main_v143
  let main_cst_12 : FVec F S_ .f32 := constant S_ .f32 0x44040000#32
  let main_v148 : FVec F S4x8x1024x1024 .f32 := broadcastInDim S4x8x1024x1024 ![] bcast_S_S4x8x1024x1024 main_cst_12
  let main_v149 : IVec S4x8x1024x1024 1 := cmpf .ole main_v147 main_v148
  let main_v150 : IVec S4x8x1024x1024 1 := andi main_v146 main_v149
  main_v150

def fn_part5 {F : FTy → Type} [FloatOps F] (main_arg1 : FVec F S384 .f32) (main_arg2 : FVec F S384 .f32) (main_arg7 : FVec F S1152x384 .f32) (main_v95 : FVec F S4x32x32x384 .f32) (main_v106 : FVec F S4x32x32x1 .f32) (main_v108 : FVec F S4x32x32x384 .f32) : IVec S4x8x1024x1024 1 :=
  let main_cst_10 : FVec F S_ .f32 := constant S_ .f32 0x358637BD#32
  let main_v109 : FVec F S4x32x32x1 .f32 := broadcastInDim S4x32x32x1 ![] bcast_S_S4x32x32x1 main_cst_10
  let main_v110 : FVec F S4x32x32x1 .f32 := addf main_v106 main_v109
  let main_v111 : FVec F S4x32x32x1 .f32 := Host.sqrt main_v110
  let main_v112 : FVec F S4x32x32x384 .f32 := broadcastInDim S4x32x32x384 ![0, 1, 2, 3] bcast_S4x32x32x1_S4x32x32x384_0_1_2_3 main_v111
  let main_v113 : FVec F S4x32x32x384 .f32 := Host.divf main_v108 main_v112
  let main_v114 : FVec F S1x1x1x384 .f32 := broadcastInDim S1x1x1x384 ![3] bcast_S384_S1x1x1x384_3 main_arg1
  let main_v115 : FVec F S4x32x32x384 .f32 := broadcastInDim S4x32x32x384 ![0, 1, 2, 3] bcast_S1x1x1x384_S4x32x32x384_0_1_2_3 main_v114
  let main_v116 : FVec F S4x32x32x384 .f32 := mulf main_v113 main_v115
  let main_v117 : FVec F S1x1x1x384 .f32 := broadcastInDim S1x1x1x384 ![3] bcast_S384_S1x1x1x384_3 main_arg2
  let main_v118 : FVec F S4x32x32x384 .f32 := broadcastInDim S4x32x32x384 ![0, 1, 2, 3] bcast_S1x1x1x384_S4x32x32x384_0_1_2_3 main_v117
  let main_v119 : FVec F S4x32x32x384 .f32 := addf main_v116 main_v118
  let main_v120 : FVec F S4x1024x384 .f32 := shapeCast S4x1024x384 main_v119 shapeCasts_S4x32x32x384_S4x1024x384
  let main_v121 : FVec F S384x1152 .f32 := (transpose S384x1152 [1, 0] · transposes_S1152x384_S384x1152_1_0) main_arg7
  let main_v122 : FVec F S4x1024x1152 .f32 := (fun l r => Host.dotGeneral dot_S4x1024x384_S384x1152_S4x1024x1152_2_0_01_1_n_n none l r) main_v120 main_v121
  let main_v123 : FVec F S4x1024x3x8x48 .f32 := shapeCast S4x1024x3x8x48 main_v122 shapeCasts_S4x1024x1152_S4x1024x3x8x48
  let main_v124 : FVec F S3x4x8x1024x48 .f32 := (transpose S3x4x8x1024x48 [2, 0, 3, 1, 4] · transposes_S4x1024x3x8x48_S3x4x8x1024x48_2_0_3_1_4) main_v123
  let main_v125 : FVec F S1x4x8x1024x48 .f32 := (extractStridedSlice S1x4x8x1024x48 ![0, 0, 0, 0, 0] · slices_S3x4x8x1024x48_S1x4x8x1024x48_0_0_0_0_0) main_v124
  let main_v126 : FVec F S4x8x1024x48 .f32 := shapeCast S4x8x1024x48 main_v125 shapeCasts_S1x4x8x1024x48_S4x8x1024x48
  let main_v127 : FVec F S1x4x8x1024x48 .f32 := (extractStridedSlice S1x4x8x1024x48 ![1, 0, 0, 0, 0] · slices_S3x4x8x1024x48_S1x4x8x1024x48_1_0_0_0_0) main_v124
  let main_v128 : FVec F S4x8x1024x48 .f32 := shapeCast S4x8x1024x48 main_v127 shapeCasts_S1x4x8x1024x48_S4x8x1024x48
  let main_v129 : FVec F S1x4x8x1024x48 .f32 := (extractStridedSlice S1x4x8x1024x48 ![2, 0, 0, 0, 0] · slices_S3x4x8x1024x48_S1x4x8x1024x48_2_0_0_0_0) main_v124
  let main_v130 : FVec F S4x8x1024x48 .f32 := shapeCast S4x8x1024x48 main_v129 shapeCasts_S1x4x8x1024x48_S4x8x1024x48
  let main_v131 : FVec F S4x1024x384 .f32 := shapeCast S4x1024x384 main_v95 shapeCasts_S4x32x32x384_S4x1024x384
  fn_part6 (F := F) main_arg7 main_v126 main_v128 main_v131

def fn_part4 {F : FTy → Type} [FloatOps F] (main_arg1 : FVec F S384 .f32) (main_arg2 : FVec F S384 .f32) (main_arg6 : FVec F S384 .f32) (main_arg7 : FVec F S1152x384 .f32) (main_v25 : FVec F S4x384x32x32 .f32) (main_v83 : FVec F S4x384x32x32 .f32) (main_v84 : FVec F S4x384x32x32 .f32) (main_v88 : FVec F S4x384x32x32 .f32) : IVec S4x8x1024x1024 1 :=
  let main_v89 : FVec F S4x384x32x32 .f32 := mulf main_v84 main_v88
  let main_v90 : FVec F S4x384x32x32 .f32 := addf main_v83 main_v89
  let main_v91 : FVec F S1x384x1x1 .f32 := broadcastInDim S1x384x1x1 ![1] bcast_S384_S1x384x1x1_1 main_arg6
  let main_v92 : FVec F S4x384x32x32 .f32 := broadcastInDim S4x384x32x32 ![0, 1, 2, 3] bcast_S1x384x1x1_S4x384x32x32_0_1_2_3 main_v91
  let main_v93 : FVec F S4x384x32x32 .f32 := addf main_v90 main_v92
  let main_v94 : FVec F S4x384x32x32 .f32 := addf main_v25 main_v93
  let main_v95 : FVec F S4x32x32x384 .f32 := (transpose S4x32x32x384 [0, 2, 3, 1] · transposes_S4x384x32x32_S4x32x32x384_0_2_3_1) main_v94
  let main_cst_6 : FVec F S_ .f32 := constant S_ .f32 0x00000000#32
  let main_v96 : FVec F S4x32x32 .f32 := (fun x v => Host.reduceAdd x v reducesTo_S4x32x32x384_S4x32x32_d3 h_S_) main_v95 main_cst_6
  let main_v97 : FVec F S4x32x32x1 .f32 := broadcastInDim S4x32x32x1 ![0, 1, 2] bcast_S4x32x32_S4x32x32x1_0_1_2 main_v96
  let main_cst_7 : FVec F S_ .f32 := constant S_ .f32 0x43C00000#32
  let main_v98 : FVec F S4x32x32x1 .f32 := broadcastInDim S4x32x32x1 ![] bcast_S_S4x32x32x1 main_cst_7
  let main_v99 : FVec F S4x32x32x1 .f32 := Host.divf main_v97 main_v98
  let main_v100 : FVec F S4x32x32x384 .f32 := broadcastInDim S4x32x32x384 ![0, 1, 2, 3] bcast_S4x32x32x1_S4x32x32x384_0_1_2_3 main_v99
  let main_v101 : FVec F S4x32x32x384 .f32 := subf main_v95 main_v100
  let main_v102 : FVec F S4x32x32x384 .f32 := mulf main_v101 main_v101
  let main_cst_8 : FVec F S_ .f32 := constant S_ .f32 0x00000000#32
  let main_v103 : FVec F S4x32x32 .f32 := (fun x v => Host.reduceAdd x v reducesTo_S4x32x32x384_S4x32x32_d3 h_S_) main_v102 main_cst_8
  let main_v104 : FVec F S4x32x32x1 .f32 := broadcastInDim S4x32x32x1 ![0, 1, 2] bcast_S4x32x32_S4x32x32x1_0_1_2 main_v103
  let main_cst_9 : FVec F S_ .f32 := constant S_ .f32 0x43C00000#32
  let main_v105 : FVec F S4x32x32x1 .f32 := broadcastInDim S4x32x32x1 ![] bcast_S_S4x32x32x1 main_cst_9
  let main_v106 : FVec F S4x32x32x1 .f32 := Host.divf main_v104 main_v105
  let main_v107 : FVec F S4x32x32x384 .f32 := broadcastInDim S4x32x32x384 ![0, 1, 2, 3] bcast_S4x32x32x1_S4x32x32x384_0_1_2_3 main_v99
  let main_v108 : FVec F S4x32x32x384 .f32 := subf main_v95 main_v107
  fn_part5 (F := F) main_arg1 main_arg2 main_arg7 main_v95 main_v106 main_v108

def fn_part3 {F : FTy → Type} [FloatOps F] (main_arg1 : FVec F S384 .f32) (main_arg2 : FVec F S384 .f32) (main_arg5 : FVec F S384x1x3x3 .f32) (main_arg6 : FVec F S384 .f32) (main_arg7 : FVec F S1152x384 .f32) (main_v25 : FVec F S4x384x32x32 .f32) (main_v26 : FVec F S4x384x34x34 .f32) (main_v62 : FVec F S4x384x32x32 .f32) (main_v63 : FVec F S4x384x32x32 .f32) (main_v64 : FVec F S384x1x1x1 .f32) : IVec S4x8x1024x1024 1 :=
  let main_v65 : FVec F S384 .f32 := shapeCast S384 main_v64 shapeCasts_S384x1x1x1_S384
  let main_v66 : FVec F S1x384x1x1 .f32 := broadcastInDim S1x384x1x1 ![1] bcast_S384_S1x384x1x1_1 main_v65
  let main_v67 : FVec F S4x384x32x32 .f32 := broadcastInDim S4x384x32x32 ![0, 1, 2, 3] bcast_S1x384x1x1_S4x384x32x32_0_1_2_3 main_v66
  let main_v68 : FVec F S4x384x32x32 .f32 := mulf main_v63 main_v67
  let main_v69 : FVec F S4x384x32x32 .f32 := addf main_v62 main_v68
  let main_v70 : FVec F S4x384x32x32 .f32 := (extractStridedSlice S4x384x32x32 ![0, 0, 2, 0] · slices_S4x384x34x34_S4x384x32x32_0_0_2_0) main_v26
  let main_v71 : FVec F S384x1x1x1 .f32 := (extractStridedSlice S384x1x1x1 ![0, 0, 2, 0] · slices_S384x1x3x3_S384x1x1x1_0_0_2_0) main_arg5
  let main_v72 : FVec F S384 .f32 := shapeCast S384 main_v71 shapeCasts_S384x1x1x1_S384
  let main_v73 : FVec F S1x384x1x1 .f32 := broadcastInDim S1x384x1x1 ![1] bcast_S384_S1x384x1x1_1 main_v72
  let main_v74 : FVec F S4x384x32x32 .f32 := broadcastInDim S4x384x32x32 ![0, 1, 2, 3] bcast_S1x384x1x1_S4x384x32x32_0_1_2_3 main_v73
  let main_v75 : FVec F S4x384x32x32 .f32 := mulf main_v70 main_v74
  let main_v76 : FVec F S4x384x32x32 .f32 := addf main_v69 main_v75
  let main_v77 : FVec F S4x384x32x32 .f32 := (extractStridedSlice S4x384x32x32 ![0, 0, 2, 1] · slices_S4x384x34x34_S4x384x32x32_0_0_2_1) main_v26
  let main_v78 : FVec F S384x1x1x1 .f32 := (extractStridedSlice S384x1x1x1 ![0, 0, 2, 1] · slices_S384x1x3x3_S384x1x1x1_0_0_2_1) main_arg5
  let main_v79 : FVec F S384 .f32 := shapeCast S384 main_v78 shapeCasts_S384x1x1x1_S384
  let main_v80 : FVec F S1x384x1x1 .f32 := broadcastInDim S1x384x1x1 ![1] bcast_S384_S1x384x1x1_1 main_v79
  let main_v81 : FVec F S4x384x32x32 .f32 := broadcastInDim S4x384x32x32 ![0, 1, 2, 3] bcast_S1x384x1x1_S4x384x32x32_0_1_2_3 main_v80
  let main_v82 : FVec F S4x384x32x32 .f32 := mulf main_v77 main_v81
  let main_v83 : FVec F S4x384x32x32 .f32 := addf main_v76 main_v82
  let main_v84 : FVec F S4x384x32x32 .f32 := (extractStridedSlice S4x384x32x32 ![0, 0, 2, 2] · slices_S4x384x34x34_S4x384x32x32_0_0_2_2) main_v26
  let main_v85 : FVec F S384x1x1x1 .f32 := (extractStridedSlice S384x1x1x1 ![0, 0, 2, 2] · slices_S384x1x3x3_S384x1x1x1_0_0_2_2) main_arg5
  let main_v86 : FVec F S384 .f32 := shapeCast S384 main_v85 shapeCasts_S384x1x1x1_S384
  let main_v87 : FVec F S1x384x1x1 .f32 := broadcastInDim S1x384x1x1 ![1] bcast_S384_S1x384x1x1_1 main_v86
  let main_v88 : FVec F S4x384x32x32 .f32 := broadcastInDim S4x384x32x32 ![0, 1, 2, 3] bcast_S1x384x1x1_S4x384x32x32_0_1_2_3 main_v87
  fn_part4 (F := F) main_arg1 main_arg2 main_arg6 main_arg7 main_v25 main_v83 main_v84 main_v88

def fn_part2 {F : FTy → Type} [FloatOps F] (main_arg1 : FVec F S384 .f32) (main_arg2 : FVec F S384 .f32) (main_arg5 : FVec F S384x1x3x3 .f32) (main_arg6 : FVec F S384 .f32) (main_arg7 : FVec F S1152x384 .f32) (main_v25 : FVec F S4x384x32x32 .f32) (main_v26 : FVec F S4x384x34x34 .f32) (main_v34 : FVec F S4x384x32x32 .f32) (main_v40 : FVec F S4x384x32x32 .f32) : IVec S4x8x1024x1024 1 :=
  let main_v41 : FVec F S4x384x32x32 .f32 := addf main_v34 main_v40
  let main_v42 : FVec F S4x384x32x32 .f32 := (extractStridedSlice S4x384x32x32 ![0, 0, 0, 2] · slices_S4x384x34x34_S4x384x32x32_0_0_0_2) main_v26
  let main_v43 : FVec F S384x1x1x1 .f32 := (extractStridedSlice S384x1x1x1 ![0, 0, 0, 2] · slices_S384x1x3x3_S384x1x1x1_0_0_0_2) main_arg5
  let main_v44 : FVec F S384 .f32 := shapeCast S384 main_v43 shapeCasts_S384x1x1x1_S384
  let main_v45 : FVec F S1x384x1x1 .f32 := broadcastInDim S1x384x1x1 ![1] bcast_S384_S1x384x1x1_1 main_v44
  let main_v46 : FVec F S4x384x32x32 .f32 := broadcastInDim S4x384x32x32 ![0, 1, 2, 3] bcast_S1x384x1x1_S4x384x32x32_0_1_2_3 main_v45
  let main_v47 : FVec F S4x384x32x32 .f32 := mulf main_v42 main_v46
  let main_v48 : FVec F S4x384x32x32 .f32 := addf main_v41 main_v47
  let main_v49 : FVec F S4x384x32x32 .f32 := (extractStridedSlice S4x384x32x32 ![0, 0, 1, 0] · slices_S4x384x34x34_S4x384x32x32_0_0_1_0) main_v26
  let main_v50 : FVec F S384x1x1x1 .f32 := (extractStridedSlice S384x1x1x1 ![0, 0, 1, 0] · slices_S384x1x3x3_S384x1x1x1_0_0_1_0) main_arg5
  let main_v51 : FVec F S384 .f32 := shapeCast S384 main_v50 shapeCasts_S384x1x1x1_S384
  let main_v52 : FVec F S1x384x1x1 .f32 := broadcastInDim S1x384x1x1 ![1] bcast_S384_S1x384x1x1_1 main_v51
  let main_v53 : FVec F S4x384x32x32 .f32 := broadcastInDim S4x384x32x32 ![0, 1, 2, 3] bcast_S1x384x1x1_S4x384x32x32_0_1_2_3 main_v52
  let main_v54 : FVec F S4x384x32x32 .f32 := mulf main_v49 main_v53
  let main_v55 : FVec F S4x384x32x32 .f32 := addf main_v48 main_v54
  let main_v56 : FVec F S4x384x32x32 .f32 := (extractStridedSlice S4x384x32x32 ![0, 0, 1, 1] · slices_S4x384x34x34_S4x384x32x32_0_0_1_1) main_v26
  let main_v57 : FVec F S384x1x1x1 .f32 := (extractStridedSlice S384x1x1x1 ![0, 0, 1, 1] · slices_S384x1x3x3_S384x1x1x1_0_0_1_1) main_arg5
  let main_v58 : FVec F S384 .f32 := shapeCast S384 main_v57 shapeCasts_S384x1x1x1_S384
  let main_v59 : FVec F S1x384x1x1 .f32 := broadcastInDim S1x384x1x1 ![1] bcast_S384_S1x384x1x1_1 main_v58
  let main_v60 : FVec F S4x384x32x32 .f32 := broadcastInDim S4x384x32x32 ![0, 1, 2, 3] bcast_S1x384x1x1_S4x384x32x32_0_1_2_3 main_v59
  let main_v61 : FVec F S4x384x32x32 .f32 := mulf main_v56 main_v60
  let main_v62 : FVec F S4x384x32x32 .f32 := addf main_v55 main_v61
  let main_v63 : FVec F S4x384x32x32 .f32 := (extractStridedSlice S4x384x32x32 ![0, 0, 1, 2] · slices_S4x384x34x34_S4x384x32x32_0_0_1_2) main_v26
  let main_v64 : FVec F S384x1x1x1 .f32 := (extractStridedSlice S384x1x1x1 ![0, 0, 1, 2] · slices_S384x1x3x3_S384x1x1x1_0_0_1_2) main_arg5
  fn_part3 (F := F) main_arg1 main_arg2 main_arg5 main_arg6 main_arg7 main_v25 main_v26 main_v62 main_v63 main_v64

def fn_part1 {F : FTy → Type} [FloatOps F] (main_arg1 : FVec F S384 .f32) (main_arg2 : FVec F S384 .f32) (main_arg5 : FVec F S384x1x3x3 .f32) (main_arg6 : FVec F S384 .f32) (main_arg7 : FVec F S1152x384 .f32) (main_v17 : FVec F S4x1024x384 .f32) (main_v18 : FVec F S1x1x384 .f32) : IVec S4x8x1024x1024 1 :=
  let main_v19 : FVec F S4x1024x384 .f32 := broadcastInDim S4x1024x384 ![0, 1, 2] bcast_S1x1x384_S4x1024x384_0_1_2 main_v18
  let main_v20 : FVec F S4x1024x384 .f32 := mulf main_v17 main_v19
  let main_v21 : FVec F S1x1x384 .f32 := broadcastInDim S1x1x384 ![2] bcast_S384_S1x1x384_2 main_arg2
  let main_v22 : FVec F S4x1024x384 .f32 := broadcastInDim S4x1024x384 ![0, 1, 2] bcast_S1x1x384_S4x1024x384_0_1_2 main_v21
  let main_v23 : FVec F S4x1024x384 .f32 := addf main_v20 main_v22
  let main_v24 : FVec F S4x32x32x384 .f32 := shapeCast S4x32x32x384 main_v23 shapeCasts_S4x1024x384_S4x32x32x384
  let main_v25 : FVec F S4x384x32x32 .f32 := (transpose S4x384x32x32 [0, 3, 1, 2] · transposes_S4x32x32x384_S4x384x32x32_0_3_1_2) main_v24
  let main_cst_4 : FVec F S_ .f32 := constant S_ .f32 0x00000000#32
  let main_v26 : FVec F S4x384x34x34 .f32 := (fun x v => pad S4x384x34x34 ![0, 0, 1, 1] ![0, 0, 1, 1] ![0, 0, 0, 0] x v pads_S4x384x32x32_S4x384x34x34_000_000_110_110 h_S_) main_v25 main_cst_4
  let main_cst_5 : FVec F S_ .f32 := constant S_ .f32 0x00000000#32
  let main_v27 : FVec F S4x384x32x32 .f32 := broadcastInDim S4x384x32x32 ![] bcast_S_S4x384x32x32 main_cst_5
  let main_v28 : FVec F S4x384x32x32 .f32 := (extractStridedSlice S4x384x32x32 ![0, 0, 0, 0] · slices_S4x384x34x34_S4x384x32x32_0_0_0_0) main_v26
  let main_v29 : FVec F S384x1x1x1 .f32 := (extractStridedSlice S384x1x1x1 ![0, 0, 0, 0] · slices_S384x1x3x3_S384x1x1x1_0_0_0_0) main_arg5
  let main_v30 : FVec F S384 .f32 := shapeCast S384 main_v29 shapeCasts_S384x1x1x1_S384
  let main_v31 : FVec F S1x384x1x1 .f32 := broadcastInDim S1x384x1x1 ![1] bcast_S384_S1x384x1x1_1 main_v30
  let main_v32 : FVec F S4x384x32x32 .f32 := broadcastInDim S4x384x32x32 ![0, 1, 2, 3] bcast_S1x384x1x1_S4x384x32x32_0_1_2_3 main_v31
  let main_v33 : FVec F S4x384x32x32 .f32 := mulf main_v28 main_v32
  let main_v34 : FVec F S4x384x32x32 .f32 := addf main_v27 main_v33
  let main_v35 : FVec F S4x384x32x32 .f32 := (extractStridedSlice S4x384x32x32 ![0, 0, 0, 1] · slices_S4x384x34x34_S4x384x32x32_0_0_0_1) main_v26
  let main_v36 : FVec F S384x1x1x1 .f32 := (extractStridedSlice S384x1x1x1 ![0, 0, 0, 1] · slices_S384x1x3x3_S384x1x1x1_0_0_0_1) main_arg5
  let main_v37 : FVec F S384 .f32 := shapeCast S384 main_v36 shapeCasts_S384x1x1x1_S384
  let main_v38 : FVec F S1x384x1x1 .f32 := broadcastInDim S1x384x1x1 ![1] bcast_S384_S1x384x1x1_1 main_v37
  let main_v39 : FVec F S4x384x32x32 .f32 := broadcastInDim S4x384x32x32 ![0, 1, 2, 3] bcast_S1x384x1x1_S4x384x32x32_0_1_2_3 main_v38
  let main_v40 : FVec F S4x384x32x32 .f32 := mulf main_v35 main_v39
  fn_part2 (F := F) main_arg1 main_arg2 main_arg5 main_arg6 main_arg7 main_v25 main_v26 main_v34 main_v40

def fn {F : FTy → Type} [FloatOps F] (main_arg0 : FVec F S4x1024x384 .f32) (main_arg1 : FVec F S384 .f32) (main_arg2 : FVec F S384 .f32) (main_arg3 : FVec F S384 .f32) (main_arg4 : FVec F S384 .f32) (main_arg5 : FVec F S384x1x3x3 .f32) (main_arg6 : FVec F S384 .f32) (main_arg7 : FVec F S1152x384 .f32) (main_arg8 : FVec F S384x384 .f32) (main_arg9 : FVec F S384 .f32) (main_arg10 : FVec F S1536x384 .f32) (main_arg11 : FVec F S1536 .f32) (main_arg12 : FVec F S384x1536 .f32) (main_arg13 : FVec F S384 .f32) (main_arg14 : FVec F S384x1536 .f32) (main_arg15 : FVec F S384 .f32) : IVec S4x8x1024x1024 1 :=
  let main_cst : FVec F S_ .f32 := constant S_ .f32 0x00000000#32
  let main_v0 : FVec F S4x1024 .f32 := (fun x v => Host.reduceAdd x v reducesTo_S4x1024x384_S4x1024_d2 h_S_) main_arg0 main_cst
  let main_v1 : FVec F S4x1024x1 .f32 := broadcastInDim S4x1024x1 ![0, 1] bcast_S4x1024_S4x1024x1_0_1 main_v0
  let main_cst_0 : FVec F S_ .f32 := constant S_ .f32 0x43C00000#32
  let main_v2 : FVec F S4x1024x1 .f32 := broadcastInDim S4x1024x1 ![] bcast_S_S4x1024x1 main_cst_0
  let main_v3 : FVec F S4x1024x1 .f32 := Host.divf main_v1 main_v2
  let main_v4 : FVec F S4x1024x384 .f32 := broadcastInDim S4x1024x384 ![0, 1, 2] bcast_S4x1024x1_S4x1024x384_0_1_2 main_v3
  let main_v5 : FVec F S4x1024x384 .f32 := subf main_arg0 main_v4
  let main_v6 : FVec F S4x1024x384 .f32 := mulf main_v5 main_v5
  let main_cst_1 : FVec F S_ .f32 := constant S_ .f32 0x00000000#32
  let main_v7 : FVec F S4x1024 .f32 := (fun x v => Host.reduceAdd x v reducesTo_S4x1024x384_S4x1024_d2 h_S_) main_v6 main_cst_1
  let main_v8 : FVec F S4x1024x1 .f32 := broadcastInDim S4x1024x1 ![0, 1] bcast_S4x1024_S4x1024x1_0_1 main_v7
  let main_cst_2 : FVec F S_ .f32 := constant S_ .f32 0x43C00000#32
  let main_v9 : FVec F S4x1024x1 .f32 := broadcastInDim S4x1024x1 ![] bcast_S_S4x1024x1 main_cst_2
  let main_v10 : FVec F S4x1024x1 .f32 := Host.divf main_v8 main_v9
  let main_v11 : FVec F S4x1024x384 .f32 := broadcastInDim S4x1024x384 ![0, 1, 2] bcast_S4x1024x1_S4x1024x384_0_1_2 main_v3
  let main_v12 : FVec F S4x1024x384 .f32 := subf main_arg0 main_v11
  let main_cst_3 : FVec F S_ .f32 := constant S_ .f32 0x358637BD#32
  let main_v13 : FVec F S4x1024x1 .f32 := broadcastInDim S4x1024x1 ![] bcast_S_S4x1024x1 main_cst_3
  let main_v14 : FVec F S4x1024x1 .f32 := addf main_v10 main_v13
  let main_v15 : FVec F S4x1024x1 .f32 := Host.sqrt main_v14
  let main_v16 : FVec F S4x1024x384 .f32 := broadcastInDim S4x1024x384 ![0, 1, 2] bcast_S4x1024x1_S4x1024x384_0_1_2 main_v15
  let main_v17 : FVec F S4x1024x384 .f32 := Host.divf main_v12 main_v16
  let main_v18 : FVec F S1x1x384 .f32 := broadcastInDim S1x1x384 ![2] bcast_S384_S1x1x384_2 main_arg1
  fn_part1 (F := F) main_arg1 main_arg2 main_arg5 main_arg6 main_arg7 main_v17 main_v18
-- ==== Kernel.lean ====
abbrev S4x1024x384 : Shape := ⟨3, ![4, 1024, 384]⟩
abbrev S384 : Shape := ⟨1, ![384]⟩
abbrev S384x1x3x3 : Shape := ⟨4, ![384, 1, 3, 3]⟩
abbrev S1152x384 : Shape := ⟨2, ![1152, 384]⟩
abbrev S384x384 : Shape := ⟨2, ![384, 384]⟩
abbrev S1536x384 : Shape := ⟨2, ![1536, 384]⟩
abbrev S1536 : Shape := ⟨1, ![1536]⟩
abbrev S384x1536 : Shape := ⟨2, ![384, 1536]⟩
abbrev S384x9 : Shape := ⟨2, ![384, 9]⟩
abbrev S9x384 : Shape := ⟨2, ![9, 384]⟩
abbrev S768x384 : Shape := ⟨2, ![768, 384]⟩
abbrev S384x768 : Shape := ⟨2, ![384, 768]⟩
abbrev S1x384 : Shape := ⟨2, ![1, 384]⟩
abbrev S1x1536 : Shape := ⟨2, ![1, 1536]⟩
abbrev S1x1024x384 : Shape := ⟨3, ![1, 1024, 384]⟩
abbrev S1024x384 : Shape := ⟨2, ![1024, 384]⟩
abbrev S1024 : Shape := ⟨1, ![1024]⟩
abbrev S1024x1 : Shape := ⟨2, ![1024, 1]⟩
abbrev S33x384 : Shape := ⟨2, ![33, 384]⟩
abbrev S991x384 : Shape := ⟨2, ![991, 384]⟩
abbrev S32x384 : Shape := ⟨2, ![32, 384]⟩
abbrev S992x384 : Shape := ⟨2, ![992, 384]⟩
abbrev S31x384 : Shape := ⟨2, ![31, 384]⟩
abbrev S993x384 : Shape := ⟨2, ![993, 384]⟩
abbrev S1023x384 : Shape := ⟨2, ![1023, 384]⟩
abbrev S2048x384 : Shape := ⟨2, ![2048, 384]⟩
abbrev S2048x768 : Shape := ⟨2, ![2048, 768]⟩
abbrev S384x2048 : Shape := ⟨2, ![384, 2048]⟩
abbrev S1024x48 : Shape := ⟨2, ![1024, 48]⟩
abbrev S48x1024 : Shape := ⟨2, ![48, 1024]⟩
abbrev S1024x1024 : Shape := ⟨2, ![1024, 1024]⟩
abbrev S1024x49 : Shape := ⟨2, ![1024, 49]⟩
abbrev S1024x1536 : Shape := ⟨2, ![1024, 1536]⟩

abbrev nBuf : Space → Nat
  | .hbm => 42
  | .vmem => 20
  | .smem => 0
  | _ => 0

abbrev bufTy : (tb : Table) → Fin (tcTables nBuf tb) → BufTy
  | .hbm, ⟨0, _⟩ => ⟨S4x1024x384, .f32⟩
  | .hbm, ⟨1, _⟩ => ⟨S384, .f32⟩
  | .hbm, ⟨2, _⟩ => ⟨S384, .f32⟩
  | .hbm, ⟨3, _⟩ => ⟨S384, .f32⟩
  | .hbm, ⟨4, _⟩ => ⟨S384, .f32⟩
  | .hbm, ⟨5, _⟩ => ⟨S384x1x3x3, .f32⟩
  | .hbm, ⟨6, _⟩ => ⟨S384, .f32⟩
  | .hbm, ⟨7, _⟩ => ⟨S1152x384, .f32⟩
  | .hbm, ⟨8, _⟩ => ⟨S384x384, .f32⟩
  | .hbm, ⟨9, _⟩ => ⟨S384, .f32⟩
  | .hbm, ⟨10, _⟩ => ⟨S1536x384, .f32⟩
  | .hbm, ⟨11, _⟩ => ⟨S1536, .f32⟩
  | .hbm, ⟨12, _⟩ => ⟨S384x1536, .f32⟩
  | .hbm, ⟨13, _⟩ => ⟨S384, .f32⟩
  | .hbm, ⟨14, _⟩ => ⟨S384x1536, .f32⟩
  | .hbm, ⟨15, _⟩ => ⟨S384, .f32⟩
  | .hbm, ⟨16, _⟩ => ⟨S384x9, .f32⟩
  | .hbm, ⟨17, _⟩ => ⟨S9x384, .f32⟩
  | .hbm, ⟨18, _⟩ => ⟨S384x384, .f32⟩
  | .hbm, ⟨19, _⟩ => ⟨S384x384, .f32⟩
  | .hbm, ⟨20, _⟩ => ⟨S384x384, .bf16⟩
  | .hbm, ⟨21, _⟩ => ⟨S384x384, .f32⟩
  | .hbm, ⟨22, _⟩ => ⟨S768x384, .f32⟩
  | .hbm, ⟨23, _⟩ => ⟨S384x768, .f32⟩
  | .hbm, ⟨24, _⟩ => ⟨S1x384, .f32⟩
  | .hbm, ⟨25, _⟩ => ⟨S1x384, .f32⟩
  | .hbm, ⟨26, _⟩ => ⟨S1x384, .f32⟩
  | .hbm, ⟨27, _⟩ => ⟨S1x384, .f32⟩
  | .hbm, ⟨28, _⟩ => ⟨S1x384, .f32⟩
  | .hbm, ⟨29, _⟩ => ⟨S384x384, .f32⟩
  | .hbm, ⟨30, _⟩ => ⟨S384x384, .bf16⟩
  | .hbm, ⟨31, _⟩ => ⟨S1x384, .f32⟩
  | .hbm, ⟨32, _⟩ => ⟨S384x1536, .f32⟩
  | .hbm, ⟨33, _⟩ => ⟨S384x1536, .bf16⟩
  | .hbm, ⟨34, _⟩ => ⟨S1x1536, .f32⟩
  | .hbm, ⟨35, _⟩ => ⟨S1536x384, .f32⟩
  | .hbm, ⟨36, _⟩ => ⟨S1536x384, .bf16⟩
  | .hbm, ⟨37, _⟩ => ⟨S1x384, .f32⟩
  | .hbm, ⟨38, _⟩ => ⟨S1536x384, .f32⟩
  | .hbm, ⟨39, _⟩ => ⟨S1536x384, .bf16⟩
  | .hbm, ⟨40, _⟩ => ⟨S1x384, .f32⟩
  | .hbm, ⟨41, _⟩ => ⟨S4x1024x384, .f32⟩
  | .local _ .vmem, ⟨0, _⟩ => ⟨S1x1024x384, .f32⟩
  | .local _ .vmem, ⟨1, _⟩ => ⟨S1x1024x384, .f32⟩
  | .local _ .vmem, ⟨2, _⟩ => ⟨S1x384, .f32⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S9x384, .f32⟩
  | .local _ .vmem, ⟨7, _⟩ => ⟨S1x384, .f32⟩
  | .local _ .vmem, ⟨8, _⟩ => ⟨S384x768, .f32⟩
  | .local _ .vmem, ⟨9, _⟩ => ⟨S384x384, .bf16⟩
  | .local _ .vmem, ⟨10, _⟩ => ⟨S384x384, .bf16⟩
  | .local _ .vmem, ⟨11, _⟩ => ⟨S1x384, .f32⟩
  | .local _ .vmem, ⟨12, _⟩ => ⟨S384x1536, .bf16⟩
  | .local _ .vmem, ⟨13, _⟩ => ⟨S1x1536, .f32⟩
  | .local _ .vmem, ⟨14, _⟩ => ⟨S1536x384, .bf16⟩
  | .local _ .vmem, ⟨15, _⟩ => ⟨S1x384, .f32⟩
  | .local _ .vmem, ⟨16, _⟩ => ⟨S1536x384, .bf16⟩
  | .local _ .vmem, ⟨17, _⟩ => ⟨S1x384, .f32⟩
  | .local _ .vmem, ⟨18, _⟩ => ⟨S1x1024x384, .f32⟩
  | .local _ .vmem, ⟨19, _⟩ => ⟨S1x1024x384, .f32⟩
  | _, _ => ⟨S4x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536x384 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1536x384 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1024x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "score_scale" => some (((Real.sqrt 48)⁻¹ * (Real.log 2)⁻¹ : ℝ) : EReal)
  | _ => none
-- ==== ReferenceIdeal.lean ====
abbrev S4x1024x384 : Shape := ⟨3, ![4, 1024, 384]⟩
abbrev S384 : Shape := ⟨1, ![384]⟩
abbrev S384x1x3x3 : Shape := ⟨4, ![384, 1, 3, 3]⟩
abbrev S1152x384 : Shape := ⟨2, ![1152, 384]⟩
abbrev S384x384 : Shape := ⟨2, ![384, 384]⟩
abbrev S1536x384 : Shape := ⟨2, ![1536, 384]⟩
abbrev S1536 : Shape := ⟨1, ![1536]⟩
abbrev S384x1536 : Shape := ⟨2, ![384, 1536]⟩
abbrev S_ : Shape := ⟨0, ![]⟩
abbrev S4x1024 : Shape := ⟨2, ![4, 1024]⟩
abbrev S4x1024x1 : Shape := ⟨3, ![4, 1024, 1]⟩
abbrev S1x1x384 : Shape := ⟨3, ![1, 1, 384]⟩
abbrev S4x32x32x384 : Shape := ⟨4, ![4, 32, 32, 384]⟩
abbrev S4x384x32x32 : Shape := ⟨4, ![4, 384, 32, 32]⟩
abbrev S4x384x34x34 : Shape := ⟨4, ![4, 384, 34, 34]⟩
abbrev S384x1x1x1 : Shape := ⟨4, ![384, 1, 1, 1]⟩
abbrev S1x384x1x1 : Shape := ⟨4, ![1, 384, 1, 1]⟩
abbrev S4x32x32 : Shape := ⟨3, ![4, 32, 32]⟩
abbrev S4x32x32x1 : Shape := ⟨4, ![4, 32, 32, 1]⟩
abbrev S1x1x1x384 : Shape := ⟨4, ![1, 1, 1, 384]⟩
abbrev S384x1152 : Shape := ⟨2, ![384, 1152]⟩
abbrev S4x1024x1152 : Shape := ⟨3, ![4, 1024, 1152]⟩
abbrev S4x1024x3x8x48 : Shape := ⟨5, ![4, 1024, 3, 8, 48]⟩
abbrev S3x4x8x1024x48 : Shape := ⟨5, ![3, 4, 8, 1024, 48]⟩
abbrev S1x4x8x1024x48 : Shape := ⟨5, ![1, 4, 8, 1024, 48]⟩
abbrev S4x8x1024x48 : Shape := ⟨4, ![4, 8, 1024, 48]⟩
abbrev S4x8x1024x1024 : Shape := ⟨4, ![4, 8, 1024, 1024]⟩
abbrev S4x8x1024 : Shape := ⟨3, ![4, 8, 1024]⟩
abbrev S4x8x1024x1 : Shape := ⟨4, ![4, 8, 1024, 1]⟩
abbrev S4x1024x8x48 : Shape := ⟨4, ![4, 1024, 8, 48]⟩
abbrev S4x32x32x1536 : Shape := ⟨4, ![4, 32, 32, 1536]⟩
abbrev S1x1x1x1536 : Shape := ⟨4, ![1, 1, 1, 1536]⟩
abbrev S4x384x1024 : Shape := ⟨3, ![4, 384, 1024]⟩

abbrev nBuf : Space → Nat
  | .hbm => 316
  | .vmem => 0
  | .smem => 0
  | _ => 0

abbrev hbmTy0_0 (i : Nat) : BufTy := match i % 128 with
  | 0 => ⟨S4x1024x384, .f32⟩
  | 1 => ⟨S384, .f32⟩
  | 2 => ⟨S384, .f32⟩
  | 3 => ⟨S384, .f32⟩
  | 4 => ⟨S384, .f32⟩
  | 5 => ⟨S384x1x3x3, .f32⟩
  | 6 => ⟨S384, .f32⟩
  | 7 => ⟨S1152x384, .f32⟩
  | 8 => ⟨S384x384, .f32⟩
  | 9 => ⟨S384, .f32⟩
  | 10 => ⟨S1536x384, .f32⟩
  | 11 => ⟨S1536, .f32⟩
  | 12 => ⟨S384x1536, .f32⟩
  | 13 => ⟨S384, .f32⟩
  | 14 => ⟨S384x1536, .f32⟩
  | 15 => ⟨S384, .f32⟩
  | 16 => ⟨S_, .f32⟩
  | 17 => ⟨S4x1024, .f32⟩
  | 18 => ⟨S4x1024x1, .f32⟩
  | 19 => ⟨S_, .f32⟩
  | 20 => ⟨S4x1024x1, .f32⟩
  | 21 => ⟨S4x1024x1, .f32⟩
  | 22 => ⟨S4x1024x384, .f32⟩
  | 23 => ⟨S4x1024x384, .f32⟩
  | 24 => ⟨S4x1024x384, .f32⟩
  | 25 => ⟨S_, .f32⟩
  | 26 => ⟨S4x1024, .f32⟩
  | 27 => ⟨S4x1024x1, .f32⟩
  | 28 => ⟨S_, .f32⟩
  | 29 => ⟨S4x1024x1, .f32⟩
  | 30 => ⟨S4x1024x1, .f32⟩
  | 31 => ⟨S4x1024x384, .f32⟩
  | 32 => ⟨S4x1024x384, .f32⟩
  | 33 => ⟨S_, .f32⟩
  | 34 => ⟨S4x1024x1, .f32⟩
  | 35 => ⟨S4x1024x1, .f32⟩
  | 36 => ⟨S4x1024x1, .f32⟩
  | 37 => ⟨S4x1024x384, .f32⟩
  | 38 => ⟨S4x1024x384, .f32⟩
  | 39 => ⟨S1x1x384, .f32⟩
  | 40 => ⟨S4x1024x384, .f32⟩
  | 41 => ⟨S4x1024x384, .f32⟩
  | 42 => ⟨S1x1x384, .f32⟩
  | 43 => ⟨S4x1024x384, .f32⟩
  | 44 => ⟨S4x1024x384, .f32⟩
  | 45 => ⟨S4x32x32x384, .f32⟩
  | 46 => ⟨S4x384x32x32, .f32⟩
  | 47 => ⟨S_, .f32⟩
  | 48 => ⟨S4x384x34x34, .f32⟩
  | 49 => ⟨S_, .f32⟩
  | 50 => ⟨S4x384x32x32, .f32⟩
  | 51 => ⟨S4x384x32x32, .f32⟩
  | 52 => ⟨S384x1x1x1, .f32⟩
  | 53 => ⟨S384, .f32⟩
  | 54 => ⟨S1x384x1x1, .f32⟩
  | 55 => ⟨S4x384x32x32, .f32⟩
  | 56 => ⟨S4x384x32x32, .f32⟩
  | 57 => ⟨S4x384x32x32, .f32⟩
  | 58 => ⟨S4x384x32x32, .f32⟩
  | 59 => ⟨S384x1x1x1, .f32⟩
  | 60 => ⟨S384, .f32⟩
  | 61 => ⟨S1x384x1x1, .f32⟩
  | 62 => ⟨S4x384x32x32, .f32⟩
  | 63 => ⟨S4x384x32x32, .f32⟩
  | 64 => ⟨S4x384x32x32, .f32⟩
  | 65 => ⟨S4x384x32x32, .f32⟩
  | 66 => ⟨S384x1x1x1, .f32⟩
  | 67 => ⟨S384, .f32⟩
  | 68 => ⟨S1x384x1x1, .f32⟩
  | 69 => ⟨S4x384x32x32, .f32⟩
  | 70 => ⟨S4x384x32x32, .f32⟩
  | 71 => ⟨S4x384x32x32, .f32⟩
  | 72 => ⟨S4x384x32x32, .f32⟩
  | 73 => ⟨S384x1x1x1, .f32⟩
  | 74 => ⟨S384, .f32⟩
  | 75 => ⟨S1x384x1x1, .f32⟩
  | 76 => ⟨S4x384x32x32, .f32⟩
  | 77 => ⟨S4x384x32x32, .f32⟩
  | 78 => ⟨S4x384x32x32, .f32⟩
  | 79 => ⟨S4x384x32x32, .f32⟩
  | 80 => ⟨S384x1x1x1, .f32⟩
  | 81 => ⟨S384, .f32⟩
  | 82 => ⟨S1x384x1x1, .f32⟩
  | 83 => ⟨S4x384x32x32, .f32⟩
  | 84 => ⟨S4x384x32x32, .f32⟩
  | 85 => ⟨S4x384x32x32, .f32⟩
  | 86 => ⟨S4x384x32x32, .f32⟩
  | 87 => ⟨S384x1x1x1, .f32⟩
  | 88 => ⟨S384, .f32⟩
  | 89 => ⟨S1x384x1x1, .f32⟩
  | 90 => ⟨S4x384x32x32, .f32⟩
  | 91 => ⟨S4x384x32x32, .f32⟩
  | 92 => ⟨S4x384x32x32, .f32⟩
  | 93 => ⟨S4x384x32x32, .f32⟩
  | 94 => ⟨S384x1x1x1, .f32⟩
  | 95 => ⟨S384, .f32⟩
  | 96 => ⟨S1x384x1x1, .f32⟩
  | 97 => ⟨S4x384x32x32, .f32⟩
  | 98 => ⟨S4x384x32x32, .f32⟩
  | 99 => ⟨S4x384x32x32, .f32⟩
  | 100 => ⟨S4x384x32x32, .f32⟩
  | 101 => ⟨S384x1x1x1, .f32⟩
  | 102 => ⟨S384, .f32⟩
  | 103 => ⟨S1x384x1x1, .f32⟩
  | 104 => ⟨S4x384x32x32, .f32⟩
  | 105 => ⟨S4x384x32x32, .f32⟩
  | 106 => ⟨S4x384x32x32, .f32⟩
  | 107 => ⟨S4x384x32x32, .f32⟩
  | 108 => ⟨S384x1x1x1, .f32⟩
  | 109 => ⟨S384, .f32⟩
  | 110 => ⟨S1x384x1x1, .f32⟩
  | 111 => ⟨S4x384x32x32, .f32⟩
  | 112 => ⟨S4x384x32x32, .f32⟩
  | 113 => ⟨S4x384x32x32, .f32⟩
  | 114 => ⟨S1x384x1x1, .f32⟩
  | 115 => ⟨S4x384x32x32, .f32⟩
  | 116 => ⟨S4x384x32x32, .f32⟩
  | 117 => ⟨S4x384x32x32, .f32⟩
  | 118 => ⟨S4x32x32x384, .f32⟩
  | 119 => ⟨S_, .f32⟩
  | 120 => ⟨S4x32x32, .f32⟩
  | 121 => ⟨S4x32x32x1, .f32⟩
  | 122 => ⟨S_, .f32⟩
  | 123 => ⟨S4x32x32x1, .f32⟩
  | 124 => ⟨S4x32x32x1, .f32⟩
  | 125 => ⟨S4x32x32x384, .f32⟩
  | 126 => ⟨S4x32x32x384, .f32⟩
  | 127 => ⟨S4x32x32x384, .f32⟩
  | _ => ⟨S4x1024x384, .f32⟩

abbrev hbmTy0_1 (i : Nat) : BufTy := match i % 128 with
  | 0 => ⟨S_, .f32⟩
  | 1 => ⟨S4x32x32, .f32⟩
  | 2 => ⟨S4x32x32x1, .f32⟩
  | 3 => ⟨S_, .f32⟩
  | 4 => ⟨S4x32x32x1, .f32⟩
  | 5 => ⟨S4x32x32x1, .f32⟩
  | 6 => ⟨S4x32x32x384, .f32⟩
  | 7 => ⟨S4x32x32x384, .f32⟩
  | 8 => ⟨S_, .f32⟩
  | 9 => ⟨S4x32x32x1, .f32⟩
  | 10 => ⟨S4x32x32x1, .f32⟩
  | 11 => ⟨S4x32x32x1, .f32⟩
  | 12 => ⟨S4x32x32x384, .f32⟩
  | 13 => ⟨S4x32x32x384, .f32⟩
  | 14 => ⟨S1x1x1x384, .f32⟩
  | 15 => ⟨S4x32x32x384, .f32⟩
  | 16 => ⟨S4x32x32x384, .f32⟩
  | 17 => ⟨S1x1x1x384, .f32⟩
  | 18 => ⟨S4x32x32x384, .f32⟩
  | 19 => ⟨S4x32x32x384, .f32⟩
  | 20 => ⟨S4x1024x384, .f32⟩
  | 21 => ⟨S384x1152, .f32⟩
  | 22 => ⟨S4x1024x1152, .f32⟩
  | 23 => ⟨S4x1024x3x8x48, .f32⟩
  | 24 => ⟨S3x4x8x1024x48, .f32⟩
  | 25 => ⟨S1x4x8x1024x48, .f32⟩
  | 26 => ⟨S4x8x1024x48, .f32⟩
  | 27 => ⟨S1x4x8x1024x48, .f32⟩
  | 28 => ⟨S4x8x1024x48, .f32⟩
  | 29 => ⟨S1x4x8x1024x48, .f32⟩
  | 30 => ⟨S4x8x1024x48, .f32⟩
  | 31 => ⟨S_, .f32⟩
  | 32 => ⟨S_, .f32⟩
  | 33 => ⟨S4x8x1024x1024, .f32⟩
  | 34 => ⟨S4x8x1024x1024, .f32⟩
  | 35 => ⟨S4x8x1024x1024, .f32⟩
  | 36 => ⟨S_, .f32⟩
  | 37 => ⟨S4x8x1024, .f32⟩
  | 38 => ⟨S_, .f32⟩
  | 39 => ⟨S4x8x1024, .f32⟩
  | 40 => ⟨S4x8x1024, .f32⟩
  | 41 => ⟨S4x8x1024x1, .f32⟩
  | 42 => ⟨S4x8x1024x1024, .f32⟩
  | 43 => ⟨S4x8x1024x1024, .f32⟩
  | 44 => ⟨S4x8x1024x1024, .f32⟩
  | 45 => ⟨S_, .f32⟩
  | 46 => ⟨S4x8x1024, .f32⟩
  | 47 => ⟨S4x8x1024x1, .f32⟩
  | 48 => ⟨S4x8x1024x1024, .f32⟩
  | 49 => ⟨S4x8x1024x1024, .f32⟩
  | 50 => ⟨S4x8x1024x48, .f32⟩
  | 51 => ⟨S4x1024x8x48, .f32⟩
  | 52 => ⟨S4x1024x384, .f32⟩
  | 53 => ⟨S384x384, .f32⟩
  | 54 => ⟨S4x1024x384, .f32⟩
  | 55 => ⟨S1x1x384, .f32⟩
  | 56 => ⟨S4x1024x384, .f32⟩
  | 57 => ⟨S4x1024x384, .f32⟩
  | 58 => ⟨S4x32x32x384, .f32⟩
  | 59 => ⟨S4x32x32x384, .f32⟩
  | 60 => ⟨S4x1024x384, .f32⟩
  | 61 => ⟨S384x1152, .f32⟩
  | 62 => ⟨S4x1024x1152, .f32⟩
  | 63 => ⟨S4x1024x3x8x48, .f32⟩
  | 64 => ⟨S3x4x8x1024x48, .f32⟩
  | 65 => ⟨S1x4x8x1024x48, .f32⟩
  | 66 => ⟨S4x8x1024x48, .f32⟩
  | 67 => ⟨S1x4x8x1024x48, .f32⟩
  | 68 => ⟨S4x8x1024x48, .f32⟩
  | 69 => ⟨S1x4x8x1024x48, .f32⟩
  | 70 => ⟨S4x8x1024x48, .f32⟩
  | 71 => ⟨S_, .f32⟩
  | 72 => ⟨S_, .f32⟩
  | 73 => ⟨S4x8x1024x1024, .f32⟩
  | 74 => ⟨S4x8x1024x1024, .f32⟩
  | 75 => ⟨S4x8x1024x1024, .f32⟩
  | 76 => ⟨S_, .f32⟩
  | 77 => ⟨S4x8x1024, .f32⟩
  | 78 => ⟨S_, .f32⟩
  | 79 => ⟨S4x8x1024, .f32⟩
  | 80 => ⟨S4x8x1024, .f32⟩
  | 81 => ⟨S4x8x1024x1, .f32⟩
  | 82 => ⟨S4x8x1024x1024, .f32⟩
  | 83 => ⟨S4x8x1024x1024, .f32⟩
  | 84 => ⟨S4x8x1024x1024, .f32⟩
  | 85 => ⟨S_, .f32⟩
  | 86 => ⟨S4x8x1024, .f32⟩
  | 87 => ⟨S4x8x1024x1, .f32⟩
  | 88 => ⟨S4x8x1024x1024, .f32⟩
  | 89 => ⟨S4x8x1024x1024, .f32⟩
  | 90 => ⟨S4x8x1024x48, .f32⟩
  | 91 => ⟨S4x1024x8x48, .f32⟩
  | 92 => ⟨S4x1024x384, .f32⟩
  | 93 => ⟨S384x384, .f32⟩
  | 94 => ⟨S4x1024x384, .f32⟩
  | 95 => ⟨S1x1x384, .f32⟩
  | 96 => ⟨S4x1024x384, .f32⟩
  | 97 => ⟨S4x1024x384, .f32⟩
  | 98 => ⟨S4x32x32x384, .f32⟩
  | 99 => ⟨S4x32x32x384, .f32⟩
  | 100 => ⟨S_, .f32⟩
  | 101 => ⟨S4x32x32, .f32⟩
  | 102 => ⟨S4x32x32x1, .f32⟩
  | 103 => ⟨S_, .f32⟩
  | 104 => ⟨S4x32x32x1, .f32⟩
  | 105 => ⟨S4x32x32x1, .f32⟩
  | 106 => ⟨S4x32x32x384, .f32⟩
  | 107 => ⟨S4x32x32x384, .f32⟩
  | 108 => ⟨S4x32x32x384, .f32⟩
  | 109 => ⟨S_, .f32⟩
  | 110 => ⟨S4x32x32, .f32⟩
  | 111 => ⟨S4x32x32x1, .f32⟩
  | 112 => ⟨S_, .f32⟩
  | 113 => ⟨S4x32x32x1, .f32⟩
  | 114 => ⟨S4x32x32x1, .f32⟩
  | 115 => ⟨S4x32x32x384, .f32⟩
  | 116 => ⟨S4x32x32x384, .f32⟩
  | 117 => ⟨S_, .f32⟩
  | 118 => ⟨S4x32x32x1, .f32⟩
  | 119 => ⟨S4x32x32x1, .f32⟩
  | 120 => ⟨S4x32x32x1, .f32⟩
  | 121 => ⟨S4x32x32x384, .f32⟩
  | 122 => ⟨S4x32x32x384, .f32⟩
  | 123 => ⟨S1x1x1x384, .f32⟩
  | 124 => ⟨S4x32x32x384, .f32⟩
  | 125 => ⟨S4x32x32x384, .f32⟩
  | 126 => ⟨S1x1x1x384, .f32⟩
  | 127 => ⟨S4x32x32x384, .f32⟩
  | _ => ⟨S4x1024x384, .f32⟩

abbrev hbmTy0_2 (i : Nat) : BufTy := match i % 128 with
  | 0 => ⟨S4x32x32x384, .f32⟩
  | 1 => ⟨S4x32x32x384, .f32⟩
  | 2 => ⟨S384x1536, .f32⟩
  | 3 => ⟨S4x32x32x1536, .f32⟩
  | 4 => ⟨S1x1x1x1536, .f32⟩
  | 5 => ⟨S4x32x32x1536, .f32⟩
  | 6 => ⟨S4x32x32x1536, .f32⟩
  | 7 => ⟨S_, .f32⟩
  | 8 => ⟨S4x32x32x1536, .f32⟩
  | 9 => ⟨S4x32x32x1536, .f32⟩
  | 10 => ⟨S4x32x32x1536, .f32⟩
  | 11 => ⟨S_, .f32⟩
  | 12 => ⟨S4x32x32x1536, .f32⟩
  | 13 => ⟨S4x32x32x1536, .f32⟩
  | 14 => ⟨S4x32x32x1536, .f32⟩
  | 15 => ⟨S4x32x32x1536, .f32⟩
  | 16 => ⟨S1536x384, .f32⟩
  | 17 => ⟨S4x32x32x384, .f32⟩
  | 18 => ⟨S1x1x1x384, .f32⟩
  | 19 => ⟨S4x32x32x384, .f32⟩
  | 20 => ⟨S4x32x32x384, .f32⟩
  | 21 => ⟨S1536x384, .f32⟩
  | 22 => ⟨S4x32x32x384, .f32⟩
  | 23 => ⟨S1x1x1x384, .f32⟩
  | 24 => ⟨S4x32x32x384, .f32⟩
  | 25 => ⟨S4x32x32x384, .f32⟩
  | 26 => ⟨S4x32x32x384, .f32⟩
  | 27 => ⟨S4x32x32x384, .f32⟩
  | 28 => ⟨S_, .f32⟩
  | 29 => ⟨S4x32x32, .f32⟩
  | 30 => ⟨S4x32x32x1, .f32⟩
  | 31 => ⟨S_, .f32⟩
  | 32 => ⟨S4x32x32x1, .f32⟩
  | 33 => ⟨S4x32x32x1, .f32⟩
  | 34 => ⟨S4x32x32x384, .f32⟩
  | 35 => ⟨S4x32x32x384, .f32⟩
  | 36 => ⟨S4x32x32x384, .f32⟩
  | 37 => ⟨S_, .f32⟩
  | 38 => ⟨S4x32x32, .f32⟩
  | 39 => ⟨S4x32x32x1, .f32⟩
  | 40 => ⟨S_, .f32⟩
  | 41 => ⟨S4x32x32x1, .f32⟩
  | 42 => ⟨S4x32x32x1, .f32⟩
  | 43 => ⟨S4x32x32x384, .f32⟩
  | 44 => ⟨S4x32x32x384, .f32⟩
  | 45 => ⟨S_, .f32⟩
  | 46 => ⟨S4x32x32x1, .f32⟩
  | 47 => ⟨S4x32x32x1, .f32⟩
  | 48 => ⟨S4x32x32x1, .f32⟩
  | 49 => ⟨S4x32x32x384, .f32⟩
  | 50 => ⟨S4x32x32x384, .f32⟩
  | 51 => ⟨S1x1x1x384, .f32⟩
  | 52 => ⟨S4x32x32x384, .f32⟩
  | 53 => ⟨S4x32x32x384, .f32⟩
  | 54 => ⟨S1x1x1x384, .f32⟩
  | 55 => ⟨S4x32x32x384, .f32⟩
  | 56 => ⟨S4x32x32x384, .f32⟩
  | 57 => ⟨S4x384x32x32, .f32⟩
  | 58 => ⟨S4x384x1024, .f32⟩
  | 59 => ⟨S4x1024x384, .f32⟩
  | _ => ⟨S4x1024x384, .f32⟩

abbrev hbmTy (i : Nat) : BufTy := match i / 128 with
  | 0 => hbmTy0_0 i
  | 1 => hbmTy0_1 i
  | 2 => hbmTy0_2 i
  | _ => ⟨S4x1024x384, .f32⟩

abbrev bufTy : (tb : Table) → Fin (tcTables nBuf tb) → BufTy
  | .hbm, ⟨i, _⟩ => hbmTy i
  | _, _ => ⟨S4x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_6 : Ref sig .tc := ⟨.hbm, 119, rfl⟩
abbrev main_v96 : Ref sig .tc := ⟨.hbm, 120, rfl⟩
abbrev main_v97 : Ref sig .tc := ⟨.hbm, 121, rfl⟩
abbrev main_cst_7 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_8 : Ref sig .tc := ⟨.hbm, 128, rfl⟩
abbrev main_v103 : Ref sig .tc := ⟨.hbm, 129, rfl⟩
abbrev main_v104 : Ref sig .tc := ⟨.hbm, 130, rfl⟩
abbrev main_cst_9 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_10 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_11 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_12 : Ref sig .tc := ⟨.hbm, 164, rfl⟩
abbrev main_v135 : Ref sig .tc := ⟨.hbm, 165, rfl⟩
abbrev main_cst_13 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_14 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_cst_15 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_cst_16 : Ref sig .tc := ⟨.hbm, 204, rfl⟩
abbrev main_v171 : Ref sig .tc := ⟨.hbm, 205, rfl⟩
abbrev main_cst_17 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_cst_18 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_cst_19 : Ref sig .tc := ⟨.hbm, 228, rfl⟩
abbrev main_v192 : Ref sig .tc := ⟨.hbm, 229, rfl⟩
abbrev main_v193 : Ref sig .tc := ⟨.hbm, 230, rfl⟩
abbrev main_cst_20 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_cst_21 : Ref sig .tc := ⟨.hbm, 237, rfl⟩
abbrev main_v199 : Ref sig .tc := ⟨.hbm, 238, rfl⟩
abbrev main_v200 : Ref sig .tc := ⟨.hbm, 239, rfl⟩
abbrev main_cst_22 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_cst_23 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_cst_24 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_cst_25 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_cst_26 : Ref sig .tc := ⟨.hbm, 284, rfl⟩
abbrev main_v241 : Ref sig .tc := ⟨.hbm, 285, rfl⟩
abbrev main_v242 : Ref sig .tc := ⟨.hbm, 286, rfl⟩
abbrev main_cst_27 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_cst_28 : Ref sig .tc := ⟨.hbm, 293, rfl⟩
abbrev main_v248 : Ref sig .tc := ⟨.hbm, 294, rfl⟩
abbrev main_v249 : Ref sig .tc := ⟨.hbm, 295, rfl⟩
abbrev main_cst_29 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_cst_30 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩

abbrev nD : Nat := 1
abbrev τ : Topo := Topo.v7x

variable {F : FTy → Type} [FloatOps F]
-- ==== Proof.Spec.lean ====
/-
  The mathematics of one block, on plain functions of token and channel numbers over the extended reals: layer
  normalization, the positional convolution, softmax attention, the gated MLP. No array and no program occurs here; the
  kernel and the reference are each shown to compute these functions.
-/
module

public import Idealize.ShloMosaic.PureOps.Ideal.Laws
public import Idealize.ShloMosaic.Lib.IdealHost

@[expose] public section

noncomputable section

open Idealize.ShloMosaic

namespace BlockSpec

/-- A matrix of tokens by channels. -/
abbrev Tokens := Fin 1024 → Fin 384 → EReal

/-- The mean of a row of 384 channels. -/
def mean (r : Fin 384 → EReal) : EReal := Ideal.div (∑ c, r c) (Ideal.ofBits .f32 0x43C00000#32)

/-- The mean squared distance of a row from its mean. -/
def variance (r : Fin 384 → EReal) : EReal := mean fun c => (r c - mean r) * (r c - mean r)

/-- Layer normalization of a row, with gain `g` and shift `b`. -/
def norm (g b r : Fin 384 → EReal) (c : Fin 384) : EReal :=
  (r c - mean r) * Ideal.rsqrt (variance r + Ideal.ofBits .f32 0x358637BD#32) * g c + b c

/-- Tap `(i, j)` of the 3 × 3 neighbourhood of token `n` on the 32 × 32 board, zero outside the board. -/
def tap (t : Tokens) (i j : Nat) (n : Fin 1024) (c : Fin 384) : EReal :=
  if h : (1 ≤ n.val / 32 + i ∧ n.val / 32 + i ≤ 32) ∧ (1 ≤ n.val % 32 + j ∧ n.val % 32 + j ≤ 32) then
    t ⟨32 * (n.val / 32 + i - 1) + (n.val % 32 + j - 1), by omega⟩ c
  else 0

/-- The depthwise 3 × 3 convolution with kernel `w`. -/
def conv (w : Fin 384 → Fin 3 → Fin 3 → EReal) (t : Tokens) (n : Fin 1024) (c : Fin 384) : EReal :=
  0 + tap t 0 0 n c * w c 0 0 + tap t 0 1 n c * w c 0 1 + tap t 0 2 n c * w c 0 2
    + tap t 1 0 n c * w c 1 0 + tap t 1 1 n c * w c 1 1 + tap t 1 2 n c * w c 1 2
    + tap t 2 0 n c * w c 2 0 + tap t 2 1 n c * w c 2 1 + tap t 2 2 n c * w c 2 2

/-- Tokens with their convolution and its bias added. -/
def embed (w : Fin 384 → Fin 3 → Fin 3 → EReal) (b : Fin 384 → EReal) (t : Tokens) : Tokens := fun n c =>
  t n c + conv w t n c + b c

/-- Row `j` of the joint query/key/value projection at token `n`. -/
def qkv (W : Fin 1152 → Fin 384 → EReal) (X : Tokens) (n : Fin 1024) (j : Fin 1152) : EReal := ∑ c, X n c * W j c

/-- The attention score, before its scale, of tokens `n` and `k` in head `h`. -/
def score (W : Fin 1152 → Fin 384 → EReal) (X : Tokens) (h : Fin 8) (n k : Fin 1024) : EReal :=
  ∑ d : Fin 48, qkv W X n ⟨48 * h.val + d.val, by omega⟩ * qkv W X k ⟨384 + 48 * h.val + d.val, by omega⟩

/-- The exponential of a score over the root of the head's width. -/
def expo (s : EReal) : ℝ := Real.exp (s.toReal * (Real.sqrt 48)⁻¹)

/-- The softmax weight of entry `k` of a row of scores. -/
def weight (s : Fin 1024 → EReal) (k : Fin 1024) : EReal := ((expo (s k) * (∑ i, expo (s i))⁻¹ : ℝ) : EReal)

/-- Multi-head softmax attention: channel `c` belongs to head `c / 48`. -/
def attention (W : Fin 1152 → Fin 384 → EReal) (X : Tokens) : Tokens := fun n c =>
  ∑ k, weight (score W X ⟨c.val / 48, by omega⟩ n) k * qkv W X k ⟨768 + c.val, by omega⟩

/-- A linear layer on one row. -/
def linear {a o : Nat} (P : Fin o → Fin a → EReal) (b : Fin o → EReal) (r : Fin a → EReal) (j : Fin o) : EReal :=
  (∑ c, r c * P j c) + b j

/-- The exact GELU. -/
def gelu (h : EReal) : EReal :=
  Ideal.ofBits .f32 0x3F000000#32 * h * (1 + Ideal.erf (h * Ideal.ofBits .f32 0x3F3504F3#32))

/-- The parameters of the block. -/
structure Params where
  /-- the first normalization's gain -/
  g1 : Fin 384 → EReal
  /-- the first normalization's shift -/
  b1 : Fin 384 → EReal
  /-- the last normalization's gain -/
  g2 : Fin 384 → EReal
  /-- the last normalization's shift -/
  b2 : Fin 384 → EReal
  /-- the convolution's kernel -/
  pw : Fin 384 → Fin 3 → Fin 3 → EReal
  /-- the convolution's bias -/
  pb : Fin 384 → EReal
  /-- the joint query/key/value weights -/
  W : Fin 1152 → Fin 384 → EReal
  /-- the output projection's weights -/
  P : Fin 384 → Fin 384 → EReal
  /-- the output projection's bias -/
  pp : Fin 384 → EReal
  /-- the MLP's first weights -/
  A : Fin 1536 → Fin 384 → EReal
  /-- the MLP's first bias -/
  aa : Fin 1536 → EReal
  /-- the gate's weights -/
  G : Fin 384 → Fin 1536 → EReal
  /-- the gate's bias -/
  gg : Fin 384 → EReal
  /-- the MLP's second weights -/
  B : Fin 384 → Fin 1536 → EReal
  /-- the MLP's second bias -/
  bb : Fin 384 → EReal

variable (θ : Params)

/-- The normalized tokens with their positional convolution. -/
def emb (x : Tokens) : Tokens := embed θ.pw θ.pb fun n => norm θ.g1 θ.b1 (x n)

/-- The tokens both attentions of the block see: normalized once more, and as they are. -/
def normed (y : Tokens) : Tokens := fun n => norm θ.g1 θ.b1 (y n)

/-- One attention with its output projection. -/
def attend (X : Tokens) : Tokens := fun n => linear θ.P θ.pp (attention θ.W X n)

/-- The tokens after both attentions. -/
def mixed (y : Tokens) : Tokens := fun n c =>
  y n c + attend θ (normed θ y) n c + norm θ.g1 θ.b1 (fun c => y n c + attend θ y n c) c

/-- The hidden row of the MLP. -/
def hidden (r : Fin 384 → EReal) (j : Fin 1536) : EReal := gelu (linear θ.A θ.aa r j)

/-- The gated MLP with its residual and the last normalization, on one row. -/
def tail (r : Fin 384 → EReal) : Fin 384 → EReal :=
  norm θ.g2 θ.b2 fun c => r c + linear θ.B θ.bb (hidden θ r) c * linear θ.G θ.gg (hidden θ r) c

/-- The whole block on the tokens of one image. -/
def block (x : Tokens) : Tokens := fun n => tail θ (mixed θ (emb θ x) n)

/-- Every score of both attentions is at most 528 in size. -/
def Bounded (y : Tokens) : Prop :=
  (∀ h n k, max (score θ.W (normed θ y) h n k) (-score θ.W (normed θ y) h n k) ≤ (528 : ℝ)) ∧
  (∀ h n k, max (score θ.W y h n k) (-score θ.W y h n k) ≤ (528 : ℝ))

end BlockSpec

end
-- ==== Proof.Scalars.lean ====
/-
  The facts about extended reals under the block's equation: the two spellings of layer normalization agree, a positive
  real factor moves through a sum, the clipped base-2 softmax and the shifted softmax are the softmax, and the two
  spellings of GELU agree.
-/
module

public import proofs.«01_k».proof.Proof.Spec

@[expose] public section

noncomputable section

open Idealize.ShloMosaic

namespace BlockSpec

/-! ### Constants -/

/-- 384 as its word. -/
theorem word_384 : Ideal.ofBits .f32 0x43C00000#32 = ((384 : ℝ) : EReal) := by
  simp [Ideal.ofBits, Ideal.ieee, -EReal.coe_mul, -EReal.coe_add]; norm_num

/-- The normalization's small constant is a positive real. -/
theorem word_eps : ∃ e : ℝ, 0 < e ∧ Ideal.ofBits .f32 0x358637BD#32 = (e : EReal) := by
  refine ⟨_, ?_, by simp [Ideal.ofBits, Ideal.ieee, -EReal.coe_mul, -EReal.coe_add]; rfl⟩
  norm_num

/-- 110 as its word. -/
theorem word_110 : Ideal.ofBits .f32 0x42DC0000#32 = ((110 : ℝ) : EReal) := by
  simp [Ideal.ofBits, Ideal.ieee, -EReal.coe_mul, -EReal.coe_add]; norm_num

/-- −110 as its word. -/
theorem word_neg_110 : Ideal.ofBits .f32 0xC2DC0000#32 = ((-110 : ℝ) : EReal) := by
  simp [Ideal.ofBits, Ideal.ieee, -EReal.coe_mul, -EReal.coe_add]; norm_num

/-- 528 as its word. -/
theorem word_528 : Ideal.ofBits .f32 0x44040000#32 = ((528 : ℝ) : EReal) := by
  simp [Ideal.ofBits, Ideal.ieee, -EReal.coe_mul, -EReal.coe_add]; norm_num

/-- 48 as its word. -/
theorem word_48 : Ideal.ofBits .f32 0x42400000#32 = ((48 : ℝ) : EReal) := by
  simp [Ideal.ofBits, Ideal.ieee, -EReal.coe_mul, -EReal.coe_add]; norm_num

/-! ### Layer normalization -/

/-- A square is not negative. -/
theorem square_nonneg (x : EReal) : 0 ≤ x * x := by
  induction x with
  | bot => simp
  | top => simp
  | coe r => rw [← EReal.coe_mul]; exact_mod_cast mul_self_nonneg r

/-- The variance of a row is not negative. -/
theorem variance_nonneg (r : Fin 384 → EReal) : 0 ≤ variance r := by
  have h : 0 ≤ ∑ c, (r c - mean r) * (r c - mean r) := Finset.sum_nonneg fun c _ => square_nonneg _
  have e : variance r = (∑ c, (r c - mean r) * (r c - mean r)) * ((384⁻¹ : ℝ) : EReal) := by
    unfold variance
    rw [mean, word_384, Ideal.div, if_neg (by exact_mod_cast (by norm_num : (384 : ℝ) ≠ 0)), ← EReal.coe_inv]
  rw [e]
  exact mul_nonneg h (by exact_mod_cast (by norm_num : (0 : ℝ) ≤ 384⁻¹))

/-- Dividing by the root of a positive value is multiplying by its reciprocal root. -/
theorem div_sqrt (x v : EReal) (hv : 0 < v) : Ideal.div x (Ideal.sqrt v) = x * Ideal.rsqrt v := by
  induction v with
  | bot => simp at hv
  | top => simp [Ideal.div]
  | coe r =>
    have hr : 0 < r := by exact_mod_cast hv
    have hs : Real.sqrt r ≠ 0 := (Real.sqrt_pos.2 hr).ne'
    rw [Ideal.sqrt_coe, Ideal.rsqrt_coe, if_neg hr.not_gt, if_neg hr.not_gt, if_neg hr.ne', Ideal.div,
      if_neg (by exact_mod_cast hs), EReal.coe_inv]

/-- Normalization as the reference spells it: a quotient by the root of the variance. -/
theorem norm_quotient (g b r : Fin 384 → EReal) (c : Fin 384) :
    Ideal.div (r c - mean r) (Ideal.sqrt (variance r + Ideal.ofBits .f32 0x358637BD#32)) * g c + b c = norm g b r c := by
  obtain ⟨e, he, h⟩ := word_eps
  rw [norm, div_sqrt]
  rw [h]
  exact lt_of_lt_of_le (by exact_mod_cast he : (0 : EReal) < (e : EReal)) (le_add_of_nonneg_left (variance_nonneg r))

/-! ### Real factors and sums -/

/-- A nonnegative real factor moves out of a finite sum. -/
theorem sum_mul_real {ι : Type} (s : Finset ι) (f : ι → EReal) (k : ℝ) (hk : 0 ≤ k) :
    ∑ i ∈ s, f i * (k : EReal) = (∑ i ∈ s, f i) * (k : EReal) := by
  classical
  induction s using Finset.induction_on with
  | empty => simp
  | insert a s ha ih =>
    rw [Finset.sum_insert ha, Finset.sum_insert ha, ih,
      EReal.right_distrib_of_nonneg_of_ne_top (by exact_mod_cast hk) (EReal.coe_ne_top k)]

/-- A sum of reals is the real sum. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient by a positive real is the product with its inverse. -/
theorem div_real (x : EReal) (z : ℝ) (hz : 0 < z) : Ideal.div x (z : EReal) = x * ((z⁻¹ : ℝ) : EReal) := by
  rw [Ideal.div, if_neg (by exact_mod_cast hz.ne'), EReal.coe_inv]

/-- A value whose size is bounded by a real is a real of that size. -/
theorem real_of_abs_le (s : EReal) (b : ℝ) (h : max s (-s) ≤ (b : EReal)) : ∃ x : ℝ, s = (x : EReal) ∧ |x| ≤ b := by
  induction s with
  | bot => simp at h
  | top => simp at h
  | coe r =>
    refine ⟨r, rfl, ?_⟩
    obtain ⟨h1, h2⟩ := max_le_iff.1 h
    rw [← EReal.coe_neg] at h2
    exact abs_le.2 ⟨by have := EReal.coe_le_coe_iff.1 h2; linarith, EReal.coe_le_coe_iff.1 h1⟩

/-- The maximum of finitely many reals, at least one, is a real. -/
theorem fold_max_real {ι : Type} (s : Finset ι) (hs : s.Nonempty) (f : ι → EReal) (hf : ∀ i, ∃ x : ℝ, f i = (x : EReal)) :
    ∃ x : ℝ, s.fold max ⊥ f = (x : EReal) := by
  classical
  induction hs using Finset.Nonempty.cons_induction with
  | singleton a => obtain ⟨x, hx⟩ := hf a; exact ⟨x, by simp [hx]⟩
  | cons a s ha hs ih =>
    obtain ⟨x, hx⟩ := hf a
    obtain ⟨y, hy⟩ := ih
    exact ⟨max x y, by rw [Finset.fold_cons, hx, hy]; exact (EReal.coe_strictMono.monotone.map_max).symm⟩

/-! ### Softmax -/

/-- The score scale with the change of base folded in. -/
def kap : ℝ := (Real.sqrt 48)⁻¹ * (Real.log 2)⁻¹

theorem kap_pos : 0 < kap := mul_pos (inv_pos.2 (Real.sqrt_pos.2 (by norm_num))) (inv_pos.2 (Real.log_pos (by norm_num)))

/-- A lower bound on the logarithm of two. -/
theorem log_two_ge : (0.693 : ℝ) ≤ Real.log 2 := by
  rw [Real.le_log_iff_exp_le (by norm_num)]
  refine (Real.exp_bound' (by norm_num) (by norm_num) (n := 8) (by norm_num)).trans ?_
  norm_num [Finset.sum_range_succ, Nat.factorial]

/-- A score of size at most 528 stays inside the clip after its scale. -/
theorem kap_bound (x : ℝ) (hx : |x| ≤ 528) : |x * kap| ≤ 110 := by
  have h1 : (6.92820 : ℝ) ≤ Real.sqrt 48 := Real.le_sqrt_of_sq_le (by norm_num)
  have h2 : (0.693 : ℝ) ≤ Real.log 2 := log_two_ge
  have h3 : (4.801 : ℝ) ≤ Real.sqrt 48 * Real.log 2 := by nlinarith
  have hk : kap = (Real.sqrt 48 * Real.log 2)⁻¹ := by rw [kap, mul_inv]
  have h4 : kap ≤ (4.801 : ℝ)⁻¹ := by rw [hk]; exact inv_anti₀ (by norm_num) h3
  rw [abs_mul, abs_of_pos kap_pos]
  calc |x| * kap ≤ 528 * (4.801 : ℝ)⁻¹ := mul_le_mul hx h4 kap_pos.le (by norm_num)
    _ ≤ 110 := by norm_num

/-- A power of two with the change of base is the exponential. -/
theorem two_pow_kap (x : ℝ) : Real.rpow 2 (x * kap) = Real.exp (x * (Real.sqrt 48)⁻¹) := by
  show (2 : ℝ) ^ (x * kap) = _
  rw [Real.rpow_def_of_pos (by norm_num), kap]
  have : Real.log 2 ≠ 0 := (Real.log_pos (by norm_num)).ne'
  congr 1
  field_simp

/-- The clipped, scaled base-2 exponential of a bounded score. -/
theorem exp2_clip (s : EReal) (h : max s (-s) ≤ (528 : ℝ)) :
    Ideal.exp2 (min (Ideal.ofBits .f32 0x42DC0000#32) (max (Ideal.ofBits .f32 0xC2DC0000#32) (s * (kap : EReal))))
      = (expo s : EReal) := by
  obtain ⟨x, rfl, hx⟩ := real_of_abs_le s 528 h
  obtain ⟨h1, h2⟩ := abs_le.1 (kap_bound x hx)
  rw [word_110, word_neg_110, ← EReal.coe_mul, max_eq_right (EReal.coe_le_coe_iff.2 h1),
    min_eq_right (EReal.coe_le_coe_iff.2 h2), Ideal.exp2_coe, two_pow_kap, expo, EReal.toReal_coe]

theorem expo_sum_pos (s : Fin 1024 → EReal) : 0 < ∑ i, expo (s i) :=
  Finset.sum_pos (fun _ _ => Real.exp_pos _) ⟨0, Finset.mem_univ _⟩

/-- The unnormalized mix over the sum of its weights is the softmax mix, whatever the values mixed. -/
theorem quotient_mix (s v : Fin 1024 → EReal) :
    Ideal.div (∑ k, (expo (s k) : EReal) * v k) (∑ k, (expo (s k) : EReal) * 1) = ∑ k, weight s k * v k := by
  simp only [mul_one]
  rw [sum_real, div_real _ _ (expo_sum_pos s), ← sum_mul_real _ _ _ (inv_pos.2 (expo_sum_pos s)).le]
  refine Finset.sum_congr rfl fun k _ => ?_
  rw [weight, EReal.coe_mul, mul_right_comm]

/-- The shifted softmax weight is the softmax weight, whatever the real shift. -/
theorem shifted_weight (s : Fin 1024 → EReal) (hs : ∀ k, ∃ x : ℝ, s k = (x : EReal)) (M : ℝ) (k : Fin 1024) :
    Ideal.div (Ideal.exp (Ideal.div (s k) ((Real.sqrt 48 : ℝ) : EReal) - (M : EReal)))
      (0 + ∑ i, Ideal.exp (Ideal.div (s i) ((Real.sqrt 48 : ℝ) : EReal) - (M : EReal))) = weight s k := by
  have e : ∀ i, Ideal.exp (Ideal.div (s i) ((Real.sqrt 48 : ℝ) : EReal) - (M : EReal))
      = ((expo (s i) * Real.exp (-M) : ℝ) : EReal) := by
    intro i
    obtain ⟨x, hx⟩ := hs i
    rw [hx, div_real _ _ (Real.sqrt_pos.2 (by norm_num)), ← EReal.coe_mul, ← EReal.coe_sub, Ideal.exp_coe, expo,
      EReal.toReal_coe, ← Real.exp_add, sub_eq_add_neg]
  simp only [e]
  rw [sum_real, zero_add, ← Finset.sum_mul, div_real _ _ (mul_pos (expo_sum_pos s) (Real.exp_pos _)), ← EReal.coe_mul,
    weight]
  have h1 := (expo_sum_pos s).ne'
  have h2 := (Real.exp_pos (-M)).ne'
  congr 1
  field_simp

/-! ### GELU -/

/-- GELU with the complementary error function. -/
theorem gelu_erfc (h : EReal) :
    Ideal.ofBits .f32 0x3F000000#32 * h * Ideal.erfc (-h * Ideal.ofBits .f32 0x3F3504F3#32) = gelu h := by
  rw [gelu, neg_mul, Ideal.erfc_neg]

end BlockSpec

end
-- ==== Proof.Tiles.lean ====
/-
  The building blocks of the kernel's body read at an index: layer normalization of the token matrix, a linear layer,
  shifted copies of the token matrix, one attention head.
-/
module

public import proofs.«01_k».proof.Proof.Scalars
public import proofs.«01_k».proof.Proof.Gen.KernelIdeal.Skeleton
public import Idealize.ShloMosaic.Lib.Pointwise
public import Idealize.ShloMosaic.Lib.MatmulPlain
public import Idealize.ShloMosaic.Lib.Pipeline.Value

@[expose] public section

noncomputable section

open Idealize.ShloMosaic Cert.KernelIdeal Cert.KernelIdeal.Gen

namespace BlockTiles

/-- Layer normalization of the rows of a token matrix, as the body writes it each time. -/
def lnTile (v1 : FVec Ideal S1024x384 .f32) (g b : FVec Ideal S1x384 .f32) : FVec Ideal S1024x384 .f32 :=
  have v10 : FVec Ideal S1024 .f32 := multiReduction .add [1] S1024 v1 0x00000000#32 reduces_S1024x384_S1024 (.inl rfl) rfl
  have v11 : FVec Ideal S1024x1 .f32 := shapeCast S1024x1 v10 shapeCasts_S1024_S1024x1
  have v12 : FVec Ideal S1024x1 .f32 := broadcast S1024x1 (Scalar.ofBits .f32 0x43C00000#32)
  have v13 : FVec Ideal S1024x1 .f32 := divf v11 v12
  have v15 : FVec Ideal S1024x384 .f32 := subf v1 (broadcastTo S1024x384 v13 broadcasts_S1024x1_S1024x384)
  have v17 : FVec Ideal S1024 .f32 := multiReduction .add [1] S1024 (mulf v15 v15) 0x00000000#32 reduces_S1024x384_S1024 (.inl rfl) rfl
  have v18 : FVec Ideal S1024x1 .f32 := shapeCast S1024x1 v17 shapeCasts_S1024_S1024x1
  have v20 : FVec Ideal S1024x1 .f32 := divf v18 v12
  have v22 : FVec Ideal S1024x1 .f32 := addf v20 (broadcast S1024x1 (Scalar.ofBits .f32 0x358637BD#32))
  have v25 : FVec Ideal S1024x384 .f32 := mulf v15 (broadcastTo S1024x384 (rsqrt v22) broadcasts_S1024x1_S1024x384)
  addf (mulf v25 (broadcastTo S1024x384 g broadcasts_S1x384_S1024x384)) (broadcastTo S1024x384 b broadcasts_S1x384_S1024x384)

/-- It is the normalization of each row. -/
theorem lnTile_apply (v : FVec Ideal S1024x384 .f32) (g b : FVec Ideal S1x384 .f32) (n : Fin 1024) (c : Fin 384) :
    lnTile v g b (ix2 n c)
      = BlockSpec.norm (fun c => g (ix2 0 c)) (fun c => b (ix2 0 c)) (fun c => v (ix2 n c)) c := by
  pointwise [lnTile]
  rfl

/-- One attention head: the clipped base-2 exponentials of the scores, mixed with the values and a column of ones, the
    mix divided by its last column. -/
def headTile (q : FVec Ideal S1024x48 .bf16) (k : FVec Ideal S48x1024 .bf16) (v : FVec Ideal S1024x48 .bf16)
    (u : FVec Ideal S1024x1 .bf16) : FVec Ideal S1024x48 .bf16 :=
  have v154 : FVec Ideal S1024x1024 .f32 := matmul dot_S1024x48_S48x1024_S1024x1024_1_0_0_1_n_n none q k (constant S1024x1024 .f32 0x00000000#32)
  have v156 : FVec Ideal S1024x1024 .f32 := maximumf (broadcast S1024x1024 (Scalar.ofBits .f32 0xC2DC0000#32)) v154
  have v158 : FVec Ideal S1024x1024 .f32 := minimumf (broadcast S1024x1024 (Scalar.ofBits .f32 0x42DC0000#32)) v156
  have v160 : FVec Ideal S1024x1024 .bf16 := truncf .bf16 (exp2 v158) bitsLt_bf16_f32
  have v161 : FVec Ideal S1024x49 .bf16 := concatenate S1024x49 1 [⟨S1024x48, v⟩, ⟨S1024x1, u⟩] concatenates_S1024x48_S1024x1_S1024x49_d1
  have v162 : FVec Ideal S1024x49 .f32 := matmul dot_S1024x1024_S1024x49_S1024x49_1_0_0_1_n_n none v160 v161 (constant S1024x49 .f32 0x00000000#32)
  have v163 : FVec Ideal S1024x48 .f32 := extractStridedSlice S1024x48 ![0, 0] v162 slices_S1024x49_o0_0_S1024x48
  have v164 : FVec Ideal S1024x1 .f32 := extractStridedSlice S1024x1 ![0, 48] v162 slices_S1024x49_o0_48_S1024x1
  truncf .bf16 (divf v163 (broadcastTo S1024x48 v164 broadcasts_S1024x1_S1024x48)) bitsLt_bf16_f32

/-- A head is the quotient of the mix of its values by the sum of its weights. -/
theorem headTile_apply (q : FVec Ideal S1024x48 .bf16) (k : FVec Ideal S48x1024 .bf16) (v : FVec Ideal S1024x48 .bf16)
    (u : FVec Ideal S1024x1 .bf16) (n : Fin 1024) (d : Fin 48) :
    headTile q k v u (ix2 n d)
      = Ideal.div
          (∑ x, Ideal.exp2 (min (Ideal.ofBits .f32 0x42DC0000#32) (max (Ideal.ofBits .f32 0xC2DC0000#32)
            (∑ e, q (ix2 n e) * k (ix2 e x)))) * v (ix2 x d))
          (∑ x, Ideal.exp2 (min (Ideal.ofBits .f32 0x42DC0000#32) (max (Ideal.ofBits .f32 0xC2DC0000#32)
            (∑ e, q (ix2 n e) * k (ix2 e x)))) * u (ix2 x 0)) := by
  pointwise [headTile]
  rfl

/-- The column number of token `k`, computed by masking its low bits. -/
theorem column_word (k : Nat) (hk : k < 1024) : IntOp.andi (BitVec.ofNat 32 k) 31#32 = BitVec.ofNat 32 (k % 32) := by
  apply BitVec.eq_of_toNat_eq
  show (BitVec.ofNat 32 k &&& 31#32).toNat = _
  rw [BitVec.toNat_and, BitVec.toNat_ofNat, BitVec.toNat_ofNat, BitVec.toNat_ofNat, Nat.mod_eq_of_lt (by omega : k < 2 ^ 32),
    Nat.mod_eq_of_lt (by omega : k % 32 < 2 ^ 32)]
  exact Nat.and_two_pow_sub_one_eq_mod k 5

/-- Selecting by "not the last column". -/
theorem select_not_last (k : Nat) (hk : k < 1024) (a b : EReal) :
    Scalar.select (IntOp.cmpi CmpIPredicate.sle (IntOp.andi (BitVec.ofNat 32 k) 31#32) 30#32) a b
      = if k % 32 ≤ 30 then a else b := by
  rw [column_word k hk]
  have h : ∀ x : Fin 32, IntOp.cmpi CmpIPredicate.sle (BitVec.ofNat 32 x.val) 30#32 = if x.val ≤ 30 then 1#1 else 0#1 := by
    decide
  rw [h ⟨k % 32, Nat.mod_lt _ (by norm_num)⟩]
  split_ifs <;> rfl

/-- Selecting by "not the first column". -/
theorem select_not_first (k : Nat) (hk : k < 1024) (a b : EReal) :
    Scalar.select (IntOp.cmpi CmpIPredicate.sge (IntOp.andi (BitVec.ofNat 32 k) 31#32) 1#32) a b
      = if 1 ≤ k % 32 then a else b := by
  rw [column_word k hk]
  have h : ∀ x : Fin 32, IntOp.cmpi CmpIPredicate.sge (BitVec.ofNat 32 x.val) 1#32 = if 1 ≤ x.val then 1#1 else 0#1 := by
    decide
  rw [h ⟨k % 32, Nat.mod_lt _ (by norm_num)⟩]
  split_ifs <;> rfl

/-- A tap is the token so many places further on, when the board has one there, and zero otherwise. -/
theorem eq_tap (t : BlockSpec.Tokens) (i j : Nat) (n : Fin 1024) (c : Fin 384) (r : EReal)
    (h1 : ∀ k : Fin 1024, (1 ≤ n.val / 32 + i ∧ n.val / 32 + i ≤ 32) ∧ (1 ≤ n.val % 32 + j ∧ n.val % 32 + j ≤ 32) →
      k.val + 33 = n.val + 32 * i + j → r = t k c)
    (h0 : ¬ ((1 ≤ n.val / 32 + i ∧ n.val / 32 + i ≤ 32) ∧ (1 ≤ n.val % 32 + j ∧ n.val % 32 + j ≤ 32)) → r = 0) :
    r = BlockSpec.tap t i j n c := by
  unfold BlockSpec.tap
  split_ifs with h
  · exact h1 _ h (by show 32 * (n.val / 32 + i - 1) + (n.val % 32 + j - 1) + 33 = _; omega)
  · exact h0 h

/-- The tokens with their convolution and its bias, from the normalized tokens `t`, as the body writes it. -/
def convTile (t : FVec Ideal S1024x384 .f32) (w : FVec Ideal S9x384 .f32) (b : FVec Ideal S1x384 .f32) :
    FVec Ideal S1024x384 .f32 :=
  k0_pay15 t w (k0_pay11 t k0_pay7) (k0_pay12 t k0_pay7 w (Scalar.ofBits .f32 0x00000000#32) k0_pay9)
    (k0_pay13 t (Scalar.ofBits .f32 0x00000000#32) k0_pay9) k0_pay14 b

attribute [local irreducible] BlockSpec.tap in
/-- They are the specification's embedding of the normalized tokens. -/
theorem convTile_apply (t : FVec Ideal S1024x384 .f32) (w : FVec Ideal S9x384 .f32) (b : FVec Ideal S1x384 .f32)
    (n : Fin 1024) (c : Fin 384) :
    convTile t w b (ix2 n c)
      = BlockSpec.embed (fun c i j => w (ix2 ⟨3 * i.val + j.val, by omega⟩ c)) (fun c => b (ix2 0 c))
          (fun n c => t (ix2 n c)) n c := by
  unfold BlockSpec.embed BlockSpec.conv
  pointwise [convTile, k0_pay15, k0_pay11, k0_pay7, k0_pay12, k0_pay9, k0_pay13, k0_pay14, k0_pay10]
  congr 11
  all_goals
    refine eq_tap _ _ _ n c _ (fun k hb hk => ?_) (fun hb => ?_)
    all_goals
      try split
      all_goals
        try rw [select_not_last _ (by omega)]
        try rw [select_not_first _ (by omega)]
        try split
        all_goals
          first
          | rfl
          | omega
          | exact congrArg (fun k => t (ix2 k c)) (Fin.ext (by first | omega | (dsimp only; omega)))

end BlockTiles

end
-- ==== Proof.Heads.lean ====
/-
  The attention of the kernel's body: the queries, values and keys of both token streams, one head, the heads of one
  stream side by side, both streams one under the other. Under the bound on the scores each stream's part is the
  specification's attention.
-/
module

public import proofs.«01_k».proof.Proof.Tiles

@[expose] public section

noncomputable section

open Idealize.ShloMosaic Cert.KernelIdeal Cert.KernelIdeal.Gen

namespace BlockTiles

/-! ### Queries, keys, values -/

/-- The joint projection's rows as the kernel's two weight arrays hold them: queries and values transposed in `w`, keys
    in `k`. -/
def joint (w : FVec Ideal S384x768 .f32) (k : FVec Ideal S384x384 .bf16) (j : Fin 1152) (c : Fin 384) : EReal :=
  if h : j.val < 384 then w (ix2 c ⟨j.val, by omega⟩)
  else if h' : j.val < 768 then k (ix2 ⟨j.val - 384, by omega⟩ c)
  else w (ix2 c ⟨j.val - 384, by omega⟩)

/-- Queries and values of all tokens, the queries' weights scaled. -/
def qvTile (x : FVec Ideal S2048x384 .bf16) (w : FVec Ideal S384x768 .f32) : FVec Ideal S2048x768 .bf16 :=
  k0_pay19 x (k0_pay17 w) (k0_pay18 w)

/-- A query is the projection scaled by the named constant. -/
theorem qvTile_query (x : FVec Ideal S2048x384 .bf16) (w : FVec Ideal S384x768 .f32) (k : FVec Ideal S384x384 .bf16)
    (r : Fin 2048) (j : Fin 384) :
    qvTile x w (ix2 r ⟨j.val, by omega⟩) = (∑ c, x (ix2 r c) * joint w k ⟨j.val, by omega⟩ c) * (BlockSpec.kap : EReal) := by
  have hκ : (Named.named (F := Ideal) (φ := .f32) κ "score_scale" 0x3E553B95#32 : EReal) = (BlockSpec.kap : EReal) :=
    IdealRules.named_const.ideal_named_scalar _ _ _ _ rfl
  rw [← BlockSpec.sum_mul_real _ _ _ BlockSpec.kap_pos.le]
  pointwise [qvTile, k0_pay19, k0_pay17, k0_pay18]
  refine Finset.sum_congr rfl fun c _ => ?_
  rw [mul_assoc, joint, dif_pos j.isLt]
  exact congrArg (fun z => x (ix2 r c) * (w (ix2 c _) * z)) hκ

/-- A value is the projection. -/
theorem qvTile_value (x : FVec Ideal S2048x384 .bf16) (w : FVec Ideal S384x768 .f32) (k : FVec Ideal S384x384 .bf16)
    (r : Fin 2048) (j : Fin 384) :
    qvTile x w (ix2 r ⟨384 + j.val, by omega⟩) = ∑ c, x (ix2 r c) * joint w k ⟨768 + j.val, by omega⟩ c := by
  pointwise [qvTile, k0_pay19, k0_pay17, k0_pay18]
  refine Finset.sum_congr rfl fun c _ => ?_
  rw [joint, dif_neg (by dsimp only; omega), dif_neg (by dsimp only; omega)]
  exact congrArg (fun z => x (ix2 r c) * w (ix2 c z)) (Fin.ext (by dsimp only; omega))

/-- A key, transposed, is the projection. -/
theorem keyTile_apply (x : FVec Ideal S2048x384 .bf16) (w : FVec Ideal S384x768 .f32) (k : FVec Ideal S384x384 .bf16)
    (r : Fin 2048) (j : Fin 384) :
    k0_pay20 x k (ix2 j r) = ∑ c, x (ix2 r c) * joint w k ⟨384 + j.val, by omega⟩ c := by
  pointwise [k0_pay20]
  refine Finset.sum_congr rfl fun c _ => ?_
  rw [joint, dif_neg (by dsimp only; omega), dif_pos (by dsimp only; omega), mul_comm]
  exact congrArg (fun z => x (ix2 r c) * k (ix2 z c)) (Fin.ext (by dsimp only; omega))

/-! ### One head of one stream -/

theorem slices_query (b h : Nat) (hb : b ≤ 1024) (hh : h < 8) : S2048x768.Slices ![b, 48 * h] S1024x48 :=
  ⟨rfl, fun a => by match a with
    | ⟨0, _⟩ => show b + 1024 ≤ 2048; omega
    | ⟨1, _⟩ => show 48 * h + 48 ≤ 768; omega⟩

theorem slices_value (b h : Nat) (hb : b ≤ 1024) (hh : h < 8) : S2048x768.Slices ![b, 384 + 48 * h] S1024x48 :=
  ⟨rfl, fun a => by match a with
    | ⟨0, _⟩ => show b + 1024 ≤ 2048; omega
    | ⟨1, _⟩ => show 384 + 48 * h + 48 ≤ 768; omega⟩

theorem slices_key (b h : Nat) (hb : b ≤ 1024) (hh : h < 8) : S384x2048.Slices ![48 * h, b] S48x1024 :=
  ⟨rfl, fun a => by match a with
    | ⟨0, _⟩ => show 48 * h + 48 ≤ 384; omega
    | ⟨1, _⟩ => show b + 1024 ≤ 2048; omega⟩

/-- Head `h` of the stream whose tokens start at row `b`. -/
def streamHead (qv : FVec Ideal S2048x768 .bf16) (kt : FVec Ideal S384x2048 .bf16) (b : Nat) (hb : b ≤ 1024) (h : Fin 8) :
    FVec Ideal S1024x48 .bf16 :=
  headTile (extractStridedSlice S1024x48 ![b, 48 * h.val] qv (slices_query b h.val hb h.isLt))
    (extractStridedSlice S48x1024 ![48 * h.val, b] kt (slices_key b h.val hb h.isLt))
    (extractStridedSlice S1024x48 ![b, 384 + 48 * h.val] qv (slices_value b h.val hb h.isLt)) k0_pay21

/-- A head of a stream whose scores are bounded is the softmax mix of its values. -/
theorem streamHead_apply (x : FVec Ideal S2048x384 .bf16) (w : FVec Ideal S384x768 .f32) (k : FVec Ideal S384x384 .bf16)
    (X : BlockSpec.Tokens) (b : Nat) (hb : b ≤ 1024) (hX : ∀ (n : Fin 1024) c, x (ix2 ⟨b + n.val, by omega⟩ c) = X n c)
    (hS : ∀ h n m, max (BlockSpec.score (joint w k) X h n m) (-BlockSpec.score (joint w k) X h n m) ≤ (528 : ℝ))
    (h : Fin 8) (n : Fin 1024) (d : Fin 48) :
    streamHead (qvTile x w) (k0_pay20 x k) b hb h (ix2 n d)
      = ∑ m, BlockSpec.weight (BlockSpec.score (joint w k) X h n) m
          * BlockSpec.qkv (joint w k) X m ⟨768 + (48 * h.val + d.val), by omega⟩ := by
  have hq : ∀ (n : Fin 1024) (e : Fin 48),
      extractStridedSlice S1024x48 ![b, 48 * h.val] (qvTile x w) (slices_query b h.val hb h.isLt) (ix2 n e)
        = BlockSpec.qkv (joint w k) X n ⟨48 * h.val + e.val, by omega⟩ * (BlockSpec.kap : EReal) := by
    intro n e
    rw [extractStridedSlice_apply _ _ _ _ (ix2 (⟨b + n.val, by omega⟩ : Fin 2048) (⟨48 * h.val + e.val, by omega⟩ : Fin 768))
      (fun a => by match a with | ⟨0, _⟩ => rfl | ⟨1, _⟩ => rfl)]
    rw [qvTile_query x w k ⟨b + n.val, by omega⟩ ⟨48 * h.val + e.val, by omega⟩]
    simp only [hX]
    rfl
  have hv : ∀ (n : Fin 1024) (e : Fin 48),
      extractStridedSlice S1024x48 ![b, 384 + 48 * h.val] (qvTile x w) (slices_value b h.val hb h.isLt) (ix2 n e)
        = BlockSpec.qkv (joint w k) X n ⟨768 + (48 * h.val + e.val), by omega⟩ := by
    intro n e
    rw [extractStridedSlice_apply _ _ _ _ (ix2 (⟨b + n.val, by omega⟩ : Fin 2048) (⟨384 + (48 * h.val + e.val), by omega⟩ : Fin 768))
      (fun a => by match a with | ⟨0, _⟩ => rfl | ⟨1, _⟩ => exact (Nat.add_assoc _ _ _).symm)]
    rw [qvTile_value x w k ⟨b + n.val, by omega⟩ ⟨48 * h.val + e.val, by omega⟩]
    simp only [hX]
    rfl
  have hk : ∀ (n : Fin 1024) (e : Fin 48),
      extractStridedSlice S48x1024 ![48 * h.val, b] (k0_pay20 x k) (slices_key b h.val hb h.isLt) (ix2 e n)
        = BlockSpec.qkv (joint w k) X n ⟨384 + 48 * h.val + e.val, by omega⟩ := by
    intro n e
    rw [extractStridedSlice_apply _ _ _ _ (ix2 (⟨48 * h.val + e.val, by omega⟩ : Fin 384) (⟨b + n.val, by omega⟩ : Fin 2048))
      (fun a => by match a with | ⟨0, _⟩ => rfl | ⟨1, _⟩ => rfl)]
    rw [keyTile_apply x w k ⟨b + n.val, by omega⟩ ⟨48 * h.val + e.val, by omega⟩]
    simp only [hX, BlockSpec.qkv, Nat.add_assoc]
  have hs : ∀ m : Fin 1024, ∑ e : Fin 48, BlockSpec.qkv (joint w k) X n ⟨48 * h.val + e.val, by omega⟩ * (BlockSpec.kap : EReal)
      * BlockSpec.qkv (joint w k) X m ⟨384 + 48 * h.val + e.val, by omega⟩
        = BlockSpec.score (joint w k) X h n m * (BlockSpec.kap : EReal) := by
    intro m
    rw [BlockSpec.score, ← BlockSpec.sum_mul_real _ _ _ BlockSpec.kap_pos.le]
    exact Finset.sum_congr rfl fun e _ => mul_right_comm _ _ _
  have h1 : ∀ m : Fin 1024, (k0_pay21 (F := Ideal)) (ix2 m 0) = (1 : EReal) := by
    intro m; pointwise [k0_pay21]
  rw [streamHead, headTile_apply]
  simp only [hq, hv, hk, hs, h1, BlockSpec.exp2_clip _ (hS _ _ _)]
  exact BlockSpec.quotient_mix _ _

/-! ### The heads of a stream, and both streams -/

theorem concat_heads (f : Fin 8 → FVec Ideal S1024x48 .bf16) :
    Shape.Concatenates ((List.ofFn fun h : Fin 8 => (⟨S1024x48, f h⟩ : (s : Shape) × (s.Idx → EReal))).map (·.1)) S1024x384 1 :=
  concatenates_S1024x48_S1024x48_S1024x48_S1024x48_S1024x48_S1024x48_S1024x48_S1024x48_S1024x384_d1

/-- The heads of the stream whose tokens start at row `b`, side by side. -/
def streamTile (qv : FVec Ideal S2048x768 .bf16) (kt : FVec Ideal S384x2048 .bf16) (b : Nat) (hb : b ≤ 1024) :
    FVec Ideal S1024x384 .bf16 :=
  concatenate S1024x384 1 (List.ofFn fun h : Fin 8 => ⟨S1024x48, streamHead qv kt b hb h⟩) (concat_heads _)

/-- They are the specification's attention. -/
theorem streamTile_apply (x : FVec Ideal S2048x384 .bf16) (w : FVec Ideal S384x768 .f32) (k : FVec Ideal S384x384 .bf16)
    (X : BlockSpec.Tokens) (b : Nat) (hb : b ≤ 1024) (hX : ∀ (n : Fin 1024) c, x (ix2 ⟨b + n.val, by omega⟩ c) = X n c)
    (hS : ∀ h n m, max (BlockSpec.score (joint w k) X h n m) (-BlockSpec.score (joint w k) X h n m) ≤ (528 : ℝ))
    (n : Fin 1024) (c : Fin 384) :
    streamTile (qvTile x w) (k0_pay20 x k) b hb (ix2 n c) = BlockSpec.attention (joint w k) X n c := by
  rw [streamTile, concatenate_ofFn_apply (t := S1024x384) (s₁ := S1024x48) 1 _ _ rfl 48 rfl (ix2 n c) ⟨c.val / 48, by omega⟩ rfl
    (ix2 n ⟨c.val % 48, Nat.mod_lt _ (by norm_num)⟩) rfl
    (fun a ha => by match a with | ⟨0, _⟩ => rfl | ⟨1, _⟩ => exact absurd rfl ha)]
  rw [streamHead_apply x w k X b hb hX hS, BlockSpec.attention]
  refine Finset.sum_congr rfl fun m _ => ?_
  exact congrArg (fun z => _ * BlockSpec.qkv (joint w k) X m z) (Fin.ext (by dsimp only; omega))

end BlockTiles

end
-- ==== Proof.Block.lean ====
/-
  The kernel's body on one block, put together from its parts: the payloads are the tiles, and the stored block is the
  specification's block of the loaded one, when the scores are bounded.
-/
module

public import proofs.«01_k».proof.Proof.Heads
public import proofs.«01_k».proof.Proof.Gen.KernelIdeal.Frame

@[expose] public section

noncomputable section

open Idealize.ShloMosaic Cert.KernelIdeal Cert.KernelIdeal.Gen

namespace BlockTiles

/-! ### The tiles between the normalizations and the attention -/

/-- The upper half of two token matrices put one under the other. -/
theorem stack_upper (u v : S1024x384.Idx → EReal) (r : Fin 2048) (n : Fin 1024) (hr : r.val = n.val) (c : Fin 384) :
    concatenate S2048x384 0 [⟨S1024x384, u⟩, ⟨S1024x384, v⟩] concatenates_S1024x384_S1024x384_S2048x384_d0 (ix2 r c)
      = u (ix2 n c) :=
  concatenate_pair_apply_left 0 u v concatenates_S1024x384_S1024x384_S2048x384_d0 (ix2 r c) rfl (ix2 n c)
    (fun a => by match a with | ⟨0, _⟩ => exact hr.symm | ⟨1, _⟩ => rfl)

/-- The lower half of two token matrices put one under the other. -/
theorem stack_lower (u v : S1024x384.Idx → EReal) (r : Fin 2048) (n : Fin 1024) (hr : r.val = 1024 + n.val) (c : Fin 384) :
    concatenate S2048x384 0 [⟨S1024x384, u⟩, ⟨S1024x384, v⟩] concatenates_S1024x384_S1024x384_S2048x384_d0 (ix2 r c)
      = v (ix2 n c) :=
  concatenate_pair_apply_right 0 u v concatenates_S1024x384_S1024x384_S2048x384_d0 (ix2 r c) rfl rfl (ix2 n c)
    (fun a ha => by match a with | ⟨0, _⟩ => exact absurd rfl ha | ⟨1, _⟩ => rfl)
    (by show n.val + 1024 = r.val; omega)

/-- The two streams the attentions see: the normalized tokens above the tokens themselves. -/
def bothTile (y : FVec Ideal S1024x384 .f32) (g b : FVec Ideal S1x384 .f32) : FVec Ideal S2048x384 .bf16 :=
  truncf .bf16 (concatenate S2048x384 0 [⟨S1024x384, lnTile y g b⟩, ⟨S1024x384, y⟩]
    concatenates_S1024x384_S1024x384_S2048x384_d0) bitsLt_bf16_f32

theorem bothTile_upper (y : FVec Ideal S1024x384 .f32) (g b : FVec Ideal S1x384 .f32) (n : Fin 1024) (c : Fin 384) :
    bothTile y g b (ix2 ⟨0 + n.val, by omega⟩ c)
      = BlockSpec.norm (fun c => g (ix2 0 c)) (fun c => b (ix2 0 c)) (fun c => y (ix2 n c)) c :=
  (stack_upper (lnTile y g b) y _ n (Nat.zero_add _) c).trans (lnTile_apply y g b n c)

theorem bothTile_lower (y : FVec Ideal S1024x384 .f32) (g b : FVec Ideal S1x384 .f32) (n : Fin 1024) (c : Fin 384) :
    bothTile y g b (ix2 ⟨1024 + n.val, by omega⟩ c) = y (ix2 n c) :=
  stack_lower (lnTile y g b) y _ n rfl c

/-- The attention of both streams, one under the other. -/
def attentionTile (qv : FVec Ideal S2048x768 .bf16) (kt : FVec Ideal S384x2048 .bf16) : FVec Ideal S2048x384 .bf16 :=
  concatenate S2048x384 0 [⟨S1024x384, streamTile qv kt 0 (by norm_num)⟩, ⟨S1024x384, streamTile qv kt 1024 (by norm_num)⟩]
    concatenates_S1024x384_S1024x384_S2048x384_d0

theorem attentionTile_upper (qv : FVec Ideal S2048x768 .bf16) (kt : FVec Ideal S384x2048 .bf16) (n : Fin 1024) (c : Fin 384) :
    attentionTile qv kt (ix2 ⟨n.val, by omega⟩ c) = streamTile qv kt 0 (by norm_num) (ix2 n c) :=
  stack_upper _ _ _ n rfl c

theorem attentionTile_lower (qv : FVec Ideal S2048x768 .bf16) (kt : FVec Ideal S384x2048 .bf16) (n : Fin 1024) (c : Fin 384) :
    attentionTile qv kt (ix2 ⟨1024 + n.val, by omega⟩ c) = streamTile qv kt 1024 (by norm_num) (ix2 n c) :=
  stack_lower _ _ _ n rfl c

/-! ### The residuals around the attentions -/

/-- The output projection of both streams. -/
def projTile (a : FVec Ideal S2048x384 .bf16) (w : FVec Ideal S384x384 .bf16) (b : FVec Ideal S1x384 .f32) :
    FVec Ideal S2048x384 .f32 :=
  addf (matmul dot_S2048x384_S384x384_S2048x384_1_0_0_1_n_n none a (shapeCast S384x384 w shapeCasts_S384x384_S384x384)
      (constant S2048x384 .f32 0x00000000#32))
    (broadcastTo S2048x384 (shapeCast S1x384 b shapeCasts_S1x384_S1x384) broadcasts_S1x384_S2048x384)

theorem projTile_apply (a : FVec Ideal S2048x384 .bf16) (w : FVec Ideal S384x384 .bf16) (b : FVec Ideal S1x384 .f32)
    (r : Fin 2048) (c : Fin 384) :
    projTile a w b (ix2 r c)
      = BlockSpec.linear (fun j c => w (ix2 c j)) (fun c => b (ix2 0 c)) (fun c => a (ix2 r c)) c := by
  pointwise [projTile]
  rfl

/-- The tokens after both attentions. -/
def mixTile (g b : FVec Ideal S1x384 .f32) (y : FVec Ideal S1024x384 .f32) (p : FVec Ideal S2048x384 .f32) :
    FVec Ideal S1024x384 .f32 :=
  addf (addf y (extractStridedSlice S1024x384 ![0, 0] p slices_S2048x384_o0_0_S1024x384))
    (lnTile (addf y (extractStridedSlice S1024x384 ![1024, 0] p slices_S2048x384_o1024_0_S1024x384)) g b)

theorem mixTile_apply (g b : FVec Ideal S1x384 .f32) (y : FVec Ideal S1024x384 .f32) (p : FVec Ideal S2048x384 .f32)
    (n : Fin 1024) (c : Fin 384) :
    mixTile g b y p (ix2 n c)
      = y (ix2 n c) + p (ix2 ⟨n.val, by omega⟩ c)
        + BlockSpec.norm (fun c => g (ix2 0 c)) (fun c => b (ix2 0 c))
            (fun c => y (ix2 n c) + p (ix2 ⟨1024 + n.val, by omega⟩ c)) c := by
  have h0 : ∀ c : Fin 384, extractStridedSlice S1024x384 ![0, 0] p slices_S2048x384_o0_0_S1024x384 (ix2 n c)
      = p (ix2 ⟨n.val, by omega⟩ c) := fun c =>
    extractStridedSlice_apply _ _ _ _ (ix2 (⟨n.val, by omega⟩ : Fin 2048) c)
      (fun a => by match a with | ⟨0, _⟩ => exact (Nat.zero_add _).symm | ⟨1, _⟩ => exact (Nat.zero_add _).symm)
  have h1 : ∀ c : Fin 384, extractStridedSlice S1024x384 ![1024, 0] p slices_S2048x384_o1024_0_S1024x384 (ix2 n c)
      = p (ix2 ⟨1024 + n.val, by omega⟩ c) := fun c =>
    extractStridedSlice_apply _ _ _ _ (ix2 (⟨1024 + n.val, by omega⟩ : Fin 2048) c)
      (fun a => by match a with | ⟨0, _⟩ => rfl | ⟨1, _⟩ => exact (Nat.zero_add _).symm)
  show (y (ix2 n c) + extractStridedSlice S1024x384 ![0, 0] p slices_S2048x384_o0_0_S1024x384 (ix2 n c))
    + lnTile _ g b (ix2 n c) = _
  rw [lnTile_apply, h0]
  show _ + BlockSpec.norm _ _ (fun c => y (ix2 n c) + extractStridedSlice S1024x384 ![1024, 0] p slices_S2048x384_o1024_0_S1024x384 (ix2 n c)) c = _
  simp only [h1]

/-! ### The MLP -/

/-- The MLP's first product. -/
def firstTile (v : FVec Ideal S1024x384 .f32) (w : FVec Ideal S384x1536 .bf16) (b : FVec Ideal S1x1536 .f32) :
    FVec Ideal S1024x1536 .f32 :=
  addf (matmul dot_S1024x384_S384x1536_S1024x1536_1_0_0_1_n_n none (truncf .bf16 v bitsLt_bf16_f32)
      (shapeCast S384x1536 w shapeCasts_S384x1536_S384x1536) (constant S1024x1536 .f32 0x00000000#32))
    (broadcastTo S1024x1536 (shapeCast S1x1536 b shapeCasts_S1x1536_S1x1536) broadcasts_S1x1536_S1024x1536)

/-- Its hidden rows. -/
def hiddenTile (v : FVec Ideal S1024x384 .f32) (w : FVec Ideal S384x1536 .bf16) (b : FVec Ideal S1x1536 .f32) :
    FVec Ideal S1024x1536 .bf16 :=
  truncf .bf16 (mulf (mulf (broadcast S1024x1536 (Scalar.ofBits .f32 0x3F000000#32)) (firstTile v w b))
    (addf (broadcast S1024x1536 (Scalar.ofBits .f32 0x3F800000#32))
      (erf (mulf (firstTile v w b) (broadcast S1024x1536 (Scalar.ofBits .f32 0x3F3504F3#32)))))) bitsLt_bf16_f32

theorem hiddenTile_apply (v : FVec Ideal S1024x384 .f32) (w : FVec Ideal S384x1536 .bf16) (b : FVec Ideal S1x1536 .f32)
    (n : Fin 1024) (j : Fin 1536) :
    hiddenTile v w b (ix2 n j)
      = BlockSpec.gelu (BlockSpec.linear (fun j c => w (ix2 c j)) (fun j => b (ix2 0 j)) (fun c => v (ix2 n c)) j) := by
  pointwise [hiddenTile, firstTile]
  rfl

/-- A product of the hidden rows. -/
def secondTile (h : FVec Ideal S1024x1536 .bf16) (w : FVec Ideal S1536x384 .bf16) (b : FVec Ideal S1x384 .f32) :
    FVec Ideal S1024x384 .f32 :=
  addf (matmul dot_S1024x1536_S1536x384_S1024x384_1_0_0_1_n_n none h (shapeCast S1536x384 w shapeCasts_S1536x384_S1536x384)
      (constant S1024x384 .f32 0x00000000#32))
    (broadcastTo S1024x384 (shapeCast S1x384 b shapeCasts_S1x384_S1x384) broadcasts_S1x384_S1024x384)

theorem secondTile_apply (h : FVec Ideal S1024x1536 .bf16) (w : FVec Ideal S1536x384 .bf16) (b : FVec Ideal S1x384 .f32)
    (n : Fin 1024) (c : Fin 384) :
    secondTile h w b (ix2 n c)
      = BlockSpec.linear (fun c j => w (ix2 j c)) (fun c => b (ix2 0 c)) (fun j => h (ix2 n j)) c := by
  pointwise [secondTile]
  rfl

/-- The gated MLP, its residual and the last normalization. -/
def tailTile (g b : FVec Ideal S1x384 .f32) (v : FVec Ideal S1024x384 .f32) (h : FVec Ideal S1024x1536 .bf16)
    (gw : FVec Ideal S1536x384 .bf16) (gb : FVec Ideal S1x384 .f32) (w : FVec Ideal S1536x384 .bf16)
    (wb : FVec Ideal S1x384 .f32) : FVec Ideal S1024x384 .f32 :=
  lnTile (addf v (mulf (secondTile h w wb) (secondTile h gw gb))) g b

theorem tailTile_apply (g b : FVec Ideal S1x384 .f32) (v : FVec Ideal S1024x384 .f32) (h : FVec Ideal S1024x1536 .bf16)
    (gw : FVec Ideal S1536x384 .bf16) (gb : FVec Ideal S1x384 .f32) (w : FVec Ideal S1536x384 .bf16)
    (wb : FVec Ideal S1x384 .f32) (n : Fin 1024) (c : Fin 384) :
    tailTile g b v h gw gb w wb (ix2 n c)
      = BlockSpec.norm (fun c => g (ix2 0 c)) (fun c => b (ix2 0 c)) (fun c => v (ix2 n c)
          + BlockSpec.linear (fun c j => w (ix2 j c)) (fun c => wb (ix2 0 c)) (fun j => h (ix2 n j)) c
            * BlockSpec.linear (fun c j => gw (ix2 j c)) (fun c => gb (ix2 0 c)) (fun j => h (ix2 n j)) c) c := by
  rw [tailTile, lnTile_apply]
  show BlockSpec.norm _ _ (fun c => v (ix2 n c) + secondTile h w wb (ix2 n c) * secondTile h gw gb (ix2 n c)) c = _
  simp only [secondTile_apply]

/-! ### The payloads are these tiles -/

theorem pay6_eq (x : FVec Ideal S1x1024x384 .f32) (g b : FVec Ideal S1x384 .f32) :
    k0_pay6 x g b = lnTile (shapeCast S1024x384 x shapeCasts_S1x1024x384_S1024x384) (k0_pay2 g) (k0_pay3 b) := rfl

theorem pay16_eq (g b : FVec Ideal S1x384 .f32) (t : FVec Ideal S1024x384 .f32) (w : FVec Ideal S9x384 .f32)
    (v46 v86 : FVec Ideal S1024x384 .f32) (v87 : FVec Ideal S993x384 .f32) (v88 : FVec Ideal S31x384 .f32) (pb : FVec Ideal S1x384 .f32) :
    k0_pay16 g b t w v46 v86 v87 v88 pb = bothTile (k0_pay15 t w v46 v86 v87 v88 pb) g b := rfl

section
variable (x : FVec Ideal S2048x384 .bf16) (w : FVec Ideal S384x768 .f32) (k : FVec Ideal S384x384 .bf16)

theorem upper0 : k0_pay22 x (k0_pay17 w) (k0_pay18 w) k = streamHead (qvTile x w) (k0_pay20 x k) 0 (by norm_num) 0 := rfl

theorem upper1 : k0_pay24 (k0_pay23 x (k0_pay17 w) (k0_pay18 w) k)
    = streamHead (qvTile x w) (k0_pay20 x k) 0 (by norm_num) 1 := rfl

end

section
variable (qv : FVec Ideal S2048x768 .bf16) (kt : FVec Ideal S384x2048 .bf16)

theorem upper2 : k0_pay25 qv kt k0_pay21 = streamHead qv kt 0 (by norm_num) 2 := rfl

theorem upper3 : k0_pay26 qv kt k0_pay21 = streamHead qv kt 0 (by norm_num) 3 := rfl

theorem upper4 : k0_pay29 (k0_pay27 qv kt k0_pay21) (k0_pay28 qv kt k0_pay21) = streamHead qv kt 0 (by norm_num) 4 := rfl

theorem upper5 : k0_pay30 qv kt k0_pay21 = streamHead qv kt 0 (by norm_num) 5 := rfl

theorem upper6 : k0_pay31 qv kt k0_pay21 = streamHead qv kt 0 (by norm_num) 6 := rfl

/-- The last head of the upper stream is computed where its heads are put side by side. -/
theorem upper_eq : k0_pay34 (streamHead qv kt 0 (by norm_num) 0) (streamHead qv kt 0 (by norm_num) 1)
    (streamHead qv kt 0 (by norm_num) 2) (streamHead qv kt 0 (by norm_num) 3) (streamHead qv kt 0 (by norm_num) 4)
    (streamHead qv kt 0 (by norm_num) 5) (streamHead qv kt 0 (by norm_num) 6) (k0_pay32 qv kt) (k0_pay33 qv k0_pay21)
      = streamTile qv kt 0 (by norm_num) := rfl

theorem lower0 : k0_pay35 qv kt k0_pay21 = streamHead qv kt 1024 (by norm_num) 0 := rfl

theorem lower1 : k0_pay36 qv kt k0_pay21 = streamHead qv kt 1024 (by norm_num) 1 := rfl

theorem lower2 : k0_pay40 k0_pay21 (k0_pay37 qv) (k0_pay38 qv kt) (k0_pay39 (F := Ideal))
    = streamHead qv kt 1024 (by norm_num) 2 := rfl

theorem lower3 : k0_pay41 qv kt k0_pay21 = streamHead qv kt 1024 (by norm_num) 3 := rfl

theorem lower4 : k0_pay42 qv kt k0_pay21 = streamHead qv kt 1024 (by norm_num) 4 := rfl

/-- The last three heads of the lower stream are computed where the two streams are put together. -/
theorem attention_eq : k0_pay45 qv kt k0_pay21 (streamTile qv kt 0 (by norm_num)) (streamHead qv kt 1024 (by norm_num) 0)
    (streamHead qv kt 1024 (by norm_num) 1) (streamHead qv kt 1024 (by norm_num) 2) (streamHead qv kt 1024 (by norm_num) 3)
    (streamHead qv kt 1024 (by norm_num) 4) (k0_pay43 qv) (k0_pay44 qv kt) (Scalar.ofBits .f32 0xC2DC0000#32)
    (Scalar.ofBits .f32 0x42DC0000#32) = attentionTile qv kt := rfl

end

theorem pay46_eq (g b : FVec Ideal S1x384 .f32) (y : FVec Ideal S1024x384 .f32) (a : FVec Ideal S2048x384 .bf16)
    (w : FVec Ideal S384x384 .bf16) (pb : FVec Ideal S1x384 .f32) :
    k0_pay46 g b y a w pb = mixTile g b y (projTile a w pb) := rfl

theorem pay50_eq (g1 b1 g b : FVec Ideal S1x384 .f32) (y : FVec Ideal S1024x384 .f32) (a : FVec Ideal S2048x384 .bf16)
    (w : FVec Ideal S384x384 .bf16) (pb : FVec Ideal S1x384 .f32) (fw : FVec Ideal S384x1536 .bf16) (fb : FVec Ideal S1x1536 .f32)
    (gw : FVec Ideal S1536x384 .bf16) (gb : FVec Ideal S1x384 .f32) (sw : FVec Ideal S1536x384 .bf16) (sb : FVec Ideal S1x384 .f32) :
    k0_pay50 g b (k0_pay46 g1 b1 y a w pb) (k0_pay48 g1 b1 y a w pb fw fb) (k0_pay49 g1 b1 y a w pb fw fb) gw gb sw sb
      = tailTile g b (k0_pay46 g1 b1 y a w pb) (hiddenTile (k0_pay46 g1 b1 y a w pb) fw fb) gw gb sw sb := rfl

/-! ### The whole body -/

section
variable (x0 : FVec Ideal S1x1024x384 .f32) (x1 x2 x3 x4 : FVec Ideal S1x384 .f32) (x5 : FVec Ideal S9x384 .f32)
  (x6 : FVec Ideal S1x384 .f32) (x7 : FVec Ideal S384x768 .f32) (x8 x9 : FVec Ideal S384x384 .bf16)
  (x10 : FVec Ideal S1x384 .f32) (x11 : FVec Ideal S384x1536 .bf16) (x12 : FVec Ideal S1x1536 .f32)
  (x13 : FVec Ideal S1536x384 .bf16) (x14 : FVec Ideal S1x384 .f32) (x15 : FVec Ideal S1536x384 .bf16)
  (x16 : FVec Ideal S1x384 .f32)

/-- The tokens with their positional convolution. -/
def embTile : FVec Ideal S1024x384 .f32 :=
  convTile (lnTile (shapeCast S1024x384 x0 shapeCasts_S1x1024x384_S1024x384) (k0_pay2 x1) (k0_pay3 x2)) (k0_pay8 x5) x6

/-- The projected attentions of both streams. -/
def attendTile : FVec Ideal S2048x384 .f32 :=
  projTile (attentionTile (qvTile (bothTile (embTile x0 x1 x2 x5 x6) (k0_pay2 x1) (k0_pay3 x2)) x7)
    (k0_pay20 (bothTile (embTile x0 x1 x2 x5 x6) (k0_pay2 x1) (k0_pay3 x2)) x8)) x9 x10

/-- The tokens after both attentions. -/
def mixedTile : FVec Ideal S1024x384 .f32 :=
  mixTile (k0_pay2 x1) (k0_pay3 x2) (embTile x0 x1 x2 x5 x6) (attendTile x0 x1 x2 x5 x6 x7 x8 x9 x10)

/-- The stored tokens. -/
def outTile : FVec Ideal S1024x384 .f32 :=
  tailTile (k0_pay4 x3) (k0_pay5 x4) (mixedTile x0 x1 x2 x5 x6 x7 x8 x9 x10)
    (hiddenTile (mixedTile x0 x1 x2 x5 x6 x7 x8 x9 x10) x11 x12) x13 x14 x15 x16

theorem hz2 : (![0, 0] : Fin 2 → Nat) = fun _ => 0 := funext fun a => by match a with | ⟨0, _⟩ => rfl | ⟨1, _⟩ => rfl

theorem hz3 : (![0, 0, 0] : Fin 3 → Nat) = fun _ => 0 :=
  funext fun a => by match a with | ⟨0, _⟩ => rfl | ⟨1, _⟩ => rfl | ⟨2, _⟩ => rfl

/-! The body loads whole blocks. -/

theorem ld_0 (x : Vec Ideal S1x1024x384 .f32) : View.ld (Val := Elt Ideal) (e' := .f32) x r0_0 = x :=
  View.ld_unit_zero (S := S1x1024x384) hz3 _ x

theorem ld_1 (x : Vec Ideal S1x384 .f32) : View.ld (Val := Elt Ideal) (e' := .f32) x r0_1 = x :=
  View.ld_unit_zero (S := S1x384) hz2 _ x

theorem ld_2 (x : Vec Ideal S9x384 .f32) : View.ld (Val := Elt Ideal) (e' := .f32) x r0_2 = x :=
  View.ld_unit_zero (S := S9x384) hz2 _ x

theorem ld_3 (x : Vec Ideal S384x768 .f32) : View.ld (Val := Elt Ideal) (e' := .f32) x r0_3 = x :=
  View.ld_unit_zero (S := S384x768) hz2 _ x

theorem ld_4 (x : Vec Ideal S384x384 .bf16) : View.ld (Val := Elt Ideal) (e' := .bf16) x r0_4 = x :=
  View.ld_unit_zero (S := S384x384) hz2 _ x

theorem ld_5 (x : Vec Ideal S384x1536 .bf16) : View.ld (Val := Elt Ideal) (e' := .bf16) x r0_5 = x :=
  View.ld_unit_zero (S := S384x1536) hz2 _ x

theorem ld_6 (x : Vec Ideal S1x1536 .f32) : View.ld (Val := Elt Ideal) (e' := .f32) x r0_6 = x :=
  View.ld_unit_zero (S := S1x1536) hz2 _ x

theorem ld_7 (x : Vec Ideal S1536x384 .bf16) : View.ld (Val := Elt Ideal) (e' := .bf16) x r0_7 = x :=
  View.ld_unit_zero (S := S1536x384) hz2 _ x

/-! The values the generated text names are these tiles. -/

theorem emb_eq : k0_pay61 (F := Ideal) x0 x1 x2 x3 x4 x5 x6 x7 x8 x9 x10 x11 x12 x13 x14 x15 x16 = embTile x0 x1 x2 x5 x6 := by
  unfold k0_pay61 k0_pay60 k0_pay59 k0_pay58 k0_pay57 k0_pay56 k0_pay55 k0_pay54 k0_pay53
  rw [ld_0, ld_1, ld_1, ld_1, ld_2]
  rfl

theorem both_eq : k0_pay62 (F := Ideal) x0 x1 x2 x3 x4 x5 x6 x7 x8 x9 x10 x11 x12 x13 x14 x15 x16 = bothTile (embTile x0 x1 x2 x5 x6) (k0_pay2 x1) (k0_pay3 x2) := by
  rw [← emb_eq x0 x1 x2 x3 x4 x5 x6 x7 x8 x9 x10 x11 x12 x13 x14 x15 x16]
  unfold k0_pay62 k0_pay61 k0_pay52 k0_pay51
  rw [pay16_eq, ld_1, ld_1, ld_1]

theorem qv_eq : k0_pay65 (F := Ideal) x0 x1 x2 x3 x4 x5 x6 x7 x8 x9 x10 x11 x12 x13 x14 x15 x16
    = qvTile (bothTile (embTile x0 x1 x2 x5 x6) (k0_pay2 x1) (k0_pay3 x2)) x7 := by
  unfold k0_pay65 k0_pay64 k0_pay63
  rw [both_eq, ld_3]
  rfl

theorem kt_eq : k0_pay66 (F := Ideal) x0 x1 x2 x3 x4 x5 x6 x7 x8 x9 x10 x11 x12 x13 x14 x15 x16
    = k0_pay20 (bothTile (embTile x0 x1 x2 x5 x6) (k0_pay2 x1) (k0_pay3 x2)) x8 := by
  unfold k0_pay66
  rw [both_eq, ld_4]

theorem heads_eq : k0_pay68 (F := Ideal) x0 x1 x2 x3 x4 x5 x6 x7 x8 x9 x10 x11 x12 x13 x14 x15 x16
    = attentionTile (qvTile (bothTile (embTile x0 x1 x2 x5 x6) (k0_pay2 x1) (k0_pay3 x2)) x7)
        (k0_pay20 (bothTile (embTile x0 x1 x2 x5 x6) (k0_pay2 x1) (k0_pay3 x2)) x8) := by
  unfold k0_pay68
  rw [qv_eq, kt_eq, both_eq, ld_4]
  have h63 : k0_pay63 (F := Ideal) x0 x1 x2 x3 x4 x5 x6 x7 x8 x9 x10 x11 x12 x13 x14 x15 x16 = k0_pay17 x7 := by unfold k0_pay63; rw [ld_3]
  have h64 : k0_pay64 (F := Ideal) x0 x1 x2 x3 x4 x5 x6 x7 x8 x9 x10 x11 x12 x13 x14 x15 x16 = k0_pay18 x7 := by unfold k0_pay64; rw [ld_3]
  have h67 : k0_pay67 (F := Ideal) x0 x1 x2 x3 x4 x5 x6 x7 x8 x9 x10 x11 x12 x13 x14 x15 x16 = k0_pay21 := rfl
  rw [h63, h64, h67]
  generalize bothTile (embTile x0 x1 x2 x5 x6) (k0_pay2 x1) (k0_pay3 x2) = x
  rw [upper0, upper1, upper2, upper3, upper4, upper5, upper6, upper_eq, lower0, lower1, lower2, lower3, lower4, attention_eq]

/-- The body's one store holds those tokens. -/
theorem out_eq : out0_17 (F := Ideal) x0 x1 x2 x3 x4 x5 x6 x7 x8 x9 x10 x11 x12 x13 x14 x15 x16 = k0_pay1 (outTile x0 x1 x2 x3 x4 x5 x6 x7 x8 x9 x10 x11 x12 x13 x14 x15 x16) := by
  unfold out0_17
  rw [emb_eq, heads_eq, pay50_eq, pay46_eq]
  unfold k0_pay51 k0_pay52 r0_0
  rw [View.canon_unit_zero (S := S1x1024x384) hz3]
  simp only [ld_1, ld_4, ld_5, ld_6, ld_7]
  rfl

end

end BlockTiles

end
-- ==== Proof.BlockValue.lean ====
/-
  What the kernel's body stores at a token and channel: the specification's block of the loaded tokens, with the
  parameters as the loaded blocks hold them.
-/
module

public import proofs.«01_k».proof.Proof.Block

@[expose] public section

noncomputable section

open Idealize.ShloMosaic Cert.KernelIdeal Cert.KernelIdeal.Gen

namespace BlockTiles

/-- The block's parameters as the kernel's parameter blocks hold them: the linear maps transposed, the convolution's nine
    taps as rows. -/
def params (x1 x2 x3 x4 : FVec Ideal S1x384 .f32) (x5 : FVec Ideal S9x384 .f32)
    (x6 : FVec Ideal S1x384 .f32) (x7 : FVec Ideal S384x768 .f32) (x8 x9 : FVec Ideal S384x384 .bf16)
    (x10 : FVec Ideal S1x384 .f32) (x11 : FVec Ideal S384x1536 .bf16) (x12 : FVec Ideal S1x1536 .f32)
    (x13 : FVec Ideal S1536x384 .bf16) (x14 : FVec Ideal S1x384 .f32) (x15 : FVec Ideal S1536x384 .bf16)
    (x16 : FVec Ideal S1x384 .f32) : BlockSpec.Params where
  g1 c := x1 (ix2 0 c)
  b1 c := x2 (ix2 0 c)
  g2 c := x3 (ix2 0 c)
  b2 c := x4 (ix2 0 c)
  pw c i j := x5 (ix2 ⟨3 * i.val + j.val, by omega⟩ c)
  pb c := x6 (ix2 0 c)
  W := joint x7 x8
  P j c := x9 (ix2 c j)
  pp c := x10 (ix2 0 c)
  A j c := x11 (ix2 c j)
  aa j := x12 (ix2 0 j)
  G c j := x13 (ix2 j c)
  gg c := x14 (ix2 0 c)
  B c j := x15 (ix2 j c)
  bb c := x16 (ix2 0 c)

/-- Tokens out of a one-image block. -/
def tokens (x0 : FVec Ideal S1x1024x384 .f32) : BlockSpec.Tokens := fun n c => x0 (ix3 0 n c)

theorem pay2_apply (g : FVec Ideal S1x384 .f32) (c : Fin 384) : k0_pay2 g (ix2 0 c) = g (ix2 0 c) := by pointwise [k0_pay2]
theorem pay3_apply (g : FVec Ideal S1x384 .f32) (c : Fin 384) : k0_pay3 g (ix2 0 c) = g (ix2 0 c) := by pointwise [k0_pay3]
theorem pay4_apply (g : FVec Ideal S1x384 .f32) (c : Fin 384) : k0_pay4 g (ix2 0 c) = g (ix2 0 c) := by pointwise [k0_pay4]
theorem pay5_apply (g : FVec Ideal S1x384 .f32) (c : Fin 384) : k0_pay5 g (ix2 0 c) = g (ix2 0 c) := by pointwise [k0_pay5]
theorem pay8_apply (w : FVec Ideal S9x384 .f32) (i : Fin 9) (c : Fin 384) : k0_pay8 w (ix2 i c) = w (ix2 i c) := by
  pointwise [k0_pay8]
theorem cast_apply (x : FVec Ideal S1x1024x384 .f32) (n : Fin 1024) (c : Fin 384) :
    shapeCast S1024x384 x shapeCasts_S1x1024x384_S1024x384 (ix2 n c) = x (ix3 0 n c) := by
  pointwise
theorem pay1_apply (v : FVec Ideal S1024x384 .f32) (n : Fin 1024) (c : Fin 384) : k0_pay1 v (ix3 0 n c) = v (ix2 n c) := by
  pointwise [k0_pay1]

section
variable (x0 : FVec Ideal S1x1024x384 .f32) (x1 x2 x3 x4 : FVec Ideal S1x384 .f32) (x5 : FVec Ideal S9x384 .f32)
  (x6 : FVec Ideal S1x384 .f32) (x7 : FVec Ideal S384x768 .f32) (x8 x9 : FVec Ideal S384x384 .bf16)
  (x10 : FVec Ideal S1x384 .f32) (x11 : FVec Ideal S384x1536 .bf16) (x12 : FVec Ideal S1x1536 .f32)
  (x13 : FVec Ideal S1536x384 .bf16) (x14 : FVec Ideal S1x384 .f32) (x15 : FVec Ideal S1536x384 .bf16)
  (x16 : FVec Ideal S1x384 .f32)

/-- The embedded tokens. -/
theorem embTile_apply (n : Fin 1024) (c : Fin 384) :
    embTile x0 x1 x2 x5 x6 (ix2 n c) = BlockSpec.emb (params x1 x2 x3 x4 x5 x6 x7 x8 x9 x10 x11 x12 x13 x14 x15 x16) (tokens x0) n c := by
  rw [embTile, convTile_apply]
  simp only [lnTile_apply, pay2_apply, pay3_apply, pay8_apply, cast_apply]
  rfl

variable (hB : BlockSpec.Bounded (params x1 x2 x3 x4 x5 x6 x7 x8 x9 x10 x11 x12 x13 x14 x15 x16) (BlockSpec.emb (params x1 x2 x3 x4 x5 x6 x7 x8 x9 x10 x11 x12 x13 x14 x15 x16) (tokens x0)))

include hB in
/-- The projected attention of the normalized tokens. -/
theorem attendTile_upper (n : Fin 1024) (c : Fin 384) :
    attendTile x0 x1 x2 x5 x6 x7 x8 x9 x10 (ix2 ⟨n.val, by omega⟩ c)
      = BlockSpec.attend (params x1 x2 x3 x4 x5 x6 x7 x8 x9 x10 x11 x12 x13 x14 x15 x16) (BlockSpec.normed (params x1 x2 x3 x4 x5 x6 x7 x8 x9 x10 x11 x12 x13 x14 x15 x16) (BlockSpec.emb (params x1 x2 x3 x4 x5 x6 x7 x8 x9 x10 x11 x12 x13 x14 x15 x16) (tokens x0))) n c := by
  rw [attendTile, projTile_apply]
  have h : ∀ c, attentionTile (qvTile (bothTile (embTile x0 x1 x2 x5 x6) (k0_pay2 x1) (k0_pay3 x2)) x7)
      (k0_pay20 (bothTile (embTile x0 x1 x2 x5 x6) (k0_pay2 x1) (k0_pay3 x2)) x8) (ix2 ⟨n.val, by omega⟩ c)
        = BlockSpec.attention (joint x7 x8) (BlockSpec.normed (params x1 x2 x3 x4 x5 x6 x7 x8 x9 x10 x11 x12 x13 x14 x15 x16) (BlockSpec.emb (params x1 x2 x3 x4 x5 x6 x7 x8 x9 x10 x11 x12 x13 x14 x15 x16) (tokens x0))) n c := fun c => by
    rw [attentionTile_upper]
    refine streamTile_apply _ x7 x8 (BlockSpec.normed (params x1 x2 x3 x4 x5 x6 x7 x8 x9 x10 x11 x12 x13 x14 x15 x16) (BlockSpec.emb (params x1 x2 x3 x4 x5 x6 x7 x8 x9 x10 x11 x12 x13 x14 x15 x16) (tokens x0))) 0 (by norm_num) (fun n c => ?_) hB.1 n c
    rw [bothTile_upper]
    simp only [pay2_apply, pay3_apply, embTile_apply x0 x1 x2 x3 x4 x5 x6 x7 x8 x9 x10 x11 x12 x13 x14 x15 x16]
    rfl
  simp only [h]
  rfl

include hB in
/-- The projected attention of the tokens themselves. -/
theorem attendTile_lower (n : Fin 1024) (c : Fin 384) :
    attendTile x0 x1 x2 x5 x6 x7 x8 x9 x10 (ix2 ⟨1024 + n.val, by omega⟩ c)
      = BlockSpec.attend (params x1 x2 x3 x4 x5 x6 x7 x8 x9 x10 x11 x12 x13 x14 x15 x16) (BlockSpec.emb (params x1 x2 x3 x4 x5 x6 x7 x8 x9 x10 x11 x12 x13 x14 x15 x16) (tokens x0)) n c := by
  rw [attendTile, projTile_apply]
  have h : ∀ c, attentionTile (qvTile (bothTile (embTile x0 x1 x2 x5 x6) (k0_pay2 x1) (k0_pay3 x2)) x7)
      (k0_pay20 (bothTile (embTile x0 x1 x2 x5 x6) (k0_pay2 x1) (k0_pay3 x2)) x8) (ix2 ⟨1024 + n.val, by omega⟩ c)
        = BlockSpec.attention (joint x7 x8) (BlockSpec.emb (params x1 x2 x3 x4 x5 x6 x7 x8 x9 x10 x11 x12 x13 x14 x15 x16) (tokens x0)) n c := fun c => by
    rw [attentionTile_lower]
    refine streamTile_apply _ x7 x8 (BlockSpec.emb (params x1 x2 x3 x4 x5 x6 x7 x8 x9 x10 x11 x12 x13 x14 x15 x16) (tokens x0)) 1024 (by norm_num) (fun n c => ?_) hB.2 n c
    rw [bothTile_lower]
    exact embTile_apply x0 x1 x2 x3 x4 x5 x6 x7 x8 x9 x10 x11 x12 x13 x14 x15 x16 n c
  simp only [h]
  rfl

include hB in
/-- The tokens after both attentions. -/
theorem mixedTile_apply (n : Fin 1024) (c : Fin 384) :
    mixedTile x0 x1 x2 x5 x6 x7 x8 x9 x10 (ix2 n c) = BlockSpec.mixed (params x1 x2 x3 x4 x5 x6 x7 x8 x9 x10 x11 x12 x13 x14 x15 x16) (BlockSpec.emb (params x1 x2 x3 x4 x5 x6 x7 x8 x9 x10 x11 x12 x13 x14 x15 x16) (tokens x0)) n c := by
  rw [mixedTile, mixTile_apply]
  simp only [pay2_apply, pay3_apply, embTile_apply x0 x1 x2 x3 x4 x5 x6 x7 x8 x9 x10 x11 x12 x13 x14 x15 x16,
    attendTile_upper x0 x1 x2 x3 x4 x5 x6 x7 x8 x9 x10 x11 x12 x13 x14 x15 x16 hB,
    attendTile_lower x0 x1 x2 x3 x4 x5 x6 x7 x8 x9 x10 x11 x12 x13 x14 x15 x16 hB]
  rfl

include hB in
/-- The body stores the specification's block. -/
theorem out_apply (n : Fin 1024) (c : Fin 384) :
    out0_17 (F := Ideal) x0 x1 x2 x3 x4 x5 x6 x7 x8 x9 x10 x11 x12 x13 x14 x15 x16 (ix3 0 n c)
      = BlockSpec.block (params x1 x2 x3 x4 x5 x6 x7 x8 x9 x10 x11 x12 x13 x14 x15 x16) (tokens x0) n c := by
  rw [out_eq]
  refine (pay1_apply _ n c).trans ?_
  rw [outTile, tailTile_apply]
  simp only [hiddenTile_apply, pay4_apply, pay5_apply,
    mixedTile_apply x0 x1 x2 x3 x4 x5 x6 x7 x8 x9 x10 x11 x12 x13 x14 x15 x16 hB]
  rfl

end

end BlockTiles

end
-- ==== Proof.Array.lean ====
/-
  The kernel's result array: entry (b, n, c) is the specification's block of image b at token n and channel c, with the
  parameters read off the launched arguments.
-/
module

public import proofs.«01_k».proof.Proof.BlockValue
public import proofs.«01_k».proof.Proof.Gen.KernelIdeal.Value
public import Idealize.ShloMosaic.Lib.StableHlo.RunRead

@[expose] public section

noncomputable section

open Idealize.ShloMosaic Idealize.ShloMosaic.TcCoe Idealize.SL.Sem Cert.KernelIdeal Cert.KernelIdeal.Gen
open Idealize.ShloMosaic.Pipeline (Dat)

namespace BlockArray

variable (m : (ℓ : Loc nD τ sig) → Buf (Elt Ideal) ℓ) (c : Dev nD)

/-- The block's parameters as the launched arguments hold them. -/
def params : BlockSpec.Params where
  g1 i := m ((c : Thread nD τ).loc main_arg1) (ix1 i)
  b1 i := m ((c : Thread nD τ).loc main_arg2) (ix1 i)
  g2 i := m ((c : Thread nD τ).loc main_arg3) (ix1 i)
  b2 i := m ((c : Thread nD τ).loc main_arg4) (ix1 i)
  pw k i j := m ((c : Thread nD τ).loc main_arg5) (ix4 k 0 i j)
  pb i := m ((c : Thread nD τ).loc main_arg6) (ix1 i)
  W j i := m ((c : Thread nD τ).loc main_arg7) (ix2 j i)
  P j i := m ((c : Thread nD τ).loc main_arg8) (ix2 j i)
  pp i := m ((c : Thread nD τ).loc main_arg9) (ix1 i)
  A j i := m ((c : Thread nD τ).loc main_arg10) (ix2 j i)
  aa j := m ((c : Thread nD τ).loc main_arg11) (ix1 j)
  G j i := m ((c : Thread nD τ).loc main_arg12) (ix2 j i)
  gg i := m ((c : Thread nD τ).loc main_arg13) (ix1 i)
  B j i := m ((c : Thread nD τ).loc main_arg14) (ix2 j i)
  bb i := m ((c : Thread nD τ).loc main_arg15) (ix1 i)

/-- The tokens of image `b`. -/
def image (b : Fin 4) : BlockSpec.Tokens := fun n i => m ((c : Thread nD τ).loc main_arg0) (ix3 b n i)

/-! ### What the host prepares for the windows -/

theorem row_v8 (i : Fin 384) : V m c main_v8 (ix2 0 i) = m ((c : Thread nD τ).loc main_arg1) (ix1 i) := by
  unfold V hostOps0
  after_reads_simp
  pointwise

theorem row_v9 (i : Fin 384) : V m c main_v9 (ix2 0 i) = m ((c : Thread nD τ).loc main_arg2) (ix1 i) := by
  unfold V hostOps0
  after_reads_simp
  pointwise

theorem row_v10 (i : Fin 384) : V m c main_v10 (ix2 0 i) = m ((c : Thread nD τ).loc main_arg3) (ix1 i) := by
  unfold V hostOps0
  after_reads_simp
  pointwise

theorem row_v11 (i : Fin 384) : V m c main_v11 (ix2 0 i) = m ((c : Thread nD τ).loc main_arg4) (ix1 i) := by
  unfold V hostOps0
  after_reads_simp
  pointwise

theorem row_v12 (i : Fin 384) : V m c main_v12 (ix2 0 i) = m ((c : Thread nD τ).loc main_arg6) (ix1 i) := by
  unfold V hostOps0
  after_reads_simp
  pointwise

theorem row_v15 (i : Fin 384) : V m c main_v15 (ix2 0 i) = m ((c : Thread nD τ).loc main_arg9) (ix1 i) := by
  unfold V hostOps0
  after_reads_simp
  pointwise

theorem row_v18 (i : Fin 1536) : V m c main_v18 (ix2 0 i) = m ((c : Thread nD τ).loc main_arg11) (ix1 i) := by
  unfold V hostOps0
  after_reads_simp
  pointwise

theorem row_v21 (i : Fin 384) : V m c main_v21 (ix2 0 i) = m ((c : Thread nD τ).loc main_arg13) (ix1 i) := by
  unfold V hostOps0
  after_reads_simp
  pointwise

theorem row_v24 (i : Fin 384) : V m c main_v24 (ix2 0 i) = m ((c : Thread nD τ).loc main_arg15) (ix1 i) := by
  unfold V hostOps0
  after_reads_simp
  pointwise

theorem weights_v14 (i : Fin 384) (j : Fin 384) :
    V m c main_v14 (ix2 i j) = m ((c : Thread nD τ).loc main_arg8) (ix2 j i) := by
  unfold V hostOps0
  after_reads_simp
  pointwise

theorem weights_v17 (i : Fin 384) (j : Fin 1536) :
    V m c main_v17 (ix2 i j) = m ((c : Thread nD τ).loc main_arg10) (ix2 j i) := by
  unfold V hostOps0
  after_reads_simp
  pointwise

theorem weights_v20 (i : Fin 1536) (j : Fin 384) :
    V m c main_v20 (ix2 i j) = m ((c : Thread nD τ).loc main_arg12) (ix2 j i) := by
  unfold V hostOps0
  after_reads_simp
  pointwise

theorem weights_v23 (i : Fin 1536) (j : Fin 384) :
    V m c main_v23 (ix2 i j) = m ((c : Thread nD τ).loc main_arg14) (ix2 j i) := by
  unfold V hostOps0
  after_reads_simp
  pointwise

theorem taps_v1 (i j : Fin 3) (k : Fin 384) :
    V m c main_v1 (ix2 ⟨3 * i.val + j.val, by omega⟩ k) = m ((c : Thread nD τ).loc main_arg5) (ix4 k 0 i j) := by
  unfold V hostOps0
  after_reads_simp
  pointwise
  have h3 : ∀ (p : (3 * i.val + j.val) / 3 < 3) (q : (3 * i.val + j.val) % 3 < 3),
      ix4 k (0 : Fin 1) (⟨(3 * i.val + j.val) / 3, p⟩ : Fin 3) (⟨(3 * i.val + j.val) % 3, q⟩ : Fin 3) = ix4 k 0 i j :=
    fun p q => congr (congrArg (ix4 k (0 : Fin 1)) (Fin.ext (by dsimp only; omega))) (Fin.ext (by dsimp only; omega))
  exact congrArg (m ((c : Thread nD τ).loc main_arg5)) (h3 _ _)

theorem keys_v4 (j i : Fin 384) :
    V m c main_v4 (ix2 j i) = m ((c : Thread nD τ).loc main_arg7) (ix2 ⟨384 + j.val, by omega⟩ i) := by
  unfold V hostOps0
  after_reads_simp
  pointwise

theorem queries_v7 (i : Fin 384) (j : Fin 768) :
    V m c main_v7 (ix2 i j)
      = m ((c : Thread nD τ).loc main_arg7) (ix2 ⟨if j.val < 384 then j.val else 384 + j.val, by split <;> omega⟩ i) := by
  unfold V hostOps0
  after_reads_simp
  pointwise
  split
  · next h =>
    after_reads_simp
    pointwise
  · next h =>
    after_reads_simp
    pointwise
    exact congrArg (fun z => m ((c : Thread nD τ).loc main_arg7) (ix2 z i))
      (Fin.ext (by dsimp only; omega))

/-- The joint projection's rows, from the two arrays that hold them. -/
theorem joint_eq (j : Fin 1152) (i : Fin 384) :
    BlockTiles.joint (V m c main_v7) (V m c main_v4) j i = m ((c : Thread nD τ).loc main_arg7) (ix2 j i) := by
  unfold BlockTiles.joint
  split
  · next h =>
    rw [queries_v7]
    exact congrArg (fun z => m ((c : Thread nD τ).loc main_arg7) (ix2 z i)) (Fin.ext (if_pos h))
  · split
    · rw [keys_v4]
      exact congrArg (fun z => m ((c : Thread nD τ).loc main_arg7) (ix2 z i)) (Fin.ext (by dsimp only; omega))
    · rw [queries_v7]
      exact congrArg (fun z => m ((c : Thread nD τ).loc main_arg7) (ix2 z i))
        (Fin.ext (by dsimp only; rw [if_neg (by omega)]; omega))

/-! ### The parameter windows are whole arrays -/

theorem iblk_1 (t : Fin cfg0.N) : iblk m c 1 t = V m c main_v8 :=
  Memref.read_access_unit_zero (Elt Ideal) main_v8
    (show (fun a => (win0_1.index t) a * main_v8.ty.shape.size a) = fun _ => 0 from
      funext fun a => by match a with | ⟨0, _⟩ => rfl | ⟨1, _⟩ => rfl) _ (V m c main_v8)

theorem iblk_2 (t : Fin cfg0.N) : iblk m c 2 t = V m c main_v9 :=
  Memref.read_access_unit_zero (Elt Ideal) main_v9
    (show (fun a => (win0_2.index t) a * main_v9.ty.shape.size a) = fun _ => 0 from
      funext fun a => by match a with | ⟨0, _⟩ => rfl | ⟨1, _⟩ => rfl) _ (V m c main_v9)

theorem iblk_3 (t : Fin cfg0.N) : iblk m c 3 t = V m c main_v10 :=
  Memref.read_access_unit_zero (Elt Ideal) main_v10
    (show (fun a => (win0_3.index t) a * main_v10.ty.shape.size a) = fun _ => 0 from
      funext fun a => by match a with | ⟨0, _⟩ => rfl | ⟨1, _⟩ => rfl) _ (V m c main_v10)

theorem iblk_4 (t : Fin cfg0.N) : iblk m c 4 t = V m c main_v11 :=
  Memref.read_access_unit_zero (Elt Ideal) main_v11
    (show (fun a => (win0_4.index t) a * main_v11.ty.shape.size a) = fun _ => 0 from
      funext fun a => by match a with | ⟨0, _⟩ => rfl | ⟨1, _⟩ => rfl) _ (V m c main_v11)

theorem iblk_5 (t : Fin cfg0.N) : iblk m c 5 t = V m c main_v1 :=
  Memref.read_access_unit_zero (Elt Ideal) main_v1
    (show (fun a => (win0_5.index t) a * main_v1.ty.shape.size a) = fun _ => 0 from
      funext fun a => by match a with | ⟨0, _⟩ => rfl | ⟨1, _⟩ => rfl) _ (V m c main_v1)

theorem iblk_6 (t : Fin cfg0.N) : iblk m c 6 t = V m c main_v12 :=
  Memref.read_access_unit_zero (Elt Ideal) main_v12
    (show (fun a => (win0_6.index t) a * main_v12.ty.shape.size a) = fun _ => 0 from
      funext fun a => by match a with | ⟨0, _⟩ => rfl | ⟨1, _⟩ => rfl) _ (V m c main_v12)

theorem iblk_7 (t : Fin cfg0.N) : iblk m c 7 t = V m c main_v7 :=
  Memref.read_access_unit_zero (Elt Ideal) main_v7
    (show (fun a => (win0_7.index t) a * main_v7.ty.shape.size a) = fun _ => 0 from
      funext fun a => by match a with | ⟨0, _⟩ => rfl | ⟨1, _⟩ => rfl) _ (V m c main_v7)

theorem iblk_8 (t : Fin cfg0.N) : iblk m c 8 t = V m c main_v4 :=
  Memref.read_access_unit_zero (Elt Ideal) main_v4
    (show (fun a => (win0_8.index t) a * main_v4.ty.shape.size a) = fun _ => 0 from
      funext fun a => by match a with | ⟨0, _⟩ => rfl | ⟨1, _⟩ => rfl) _ (V m c main_v4)

theorem iblk_9 (t : Fin cfg0.N) : iblk m c 9 t = V m c main_v14 :=
  Memref.read_access_unit_zero (Elt Ideal) main_v14
    (show (fun a => (win0_9.index t) a * main_v14.ty.shape.size a) = fun _ => 0 from
      funext fun a => by match a with | ⟨0, _⟩ => rfl | ⟨1, _⟩ => rfl) _ (V m c main_v14)

theorem iblk_10 (t : Fin cfg0.N) : iblk m c 10 t = V m c main_v15 :=
  Memref.read_access_unit_zero (Elt Ideal) main_v15
    (show (fun a => (win0_10.index t) a * main_v15.ty.shape.size a) = fun _ => 0 from
      funext fun a => by match a with | ⟨0, _⟩ => rfl | ⟨1, _⟩ => rfl) _ (V m c main_v15)

theorem iblk_11 (t : Fin cfg0.N) : iblk m c 11 t = V m c main_v17 :=
  Memref.read_access_unit_zero (Elt Ideal) main_v17
    (show (fun a => (win0_11.index t) a * main_v17.ty.shape.size a) = fun _ => 0 from
      funext fun a => by match a with | ⟨0, _⟩ => rfl | ⟨1, _⟩ => rfl) _ (V m c main_v17)

theorem iblk_12 (t : Fin cfg0.N) : iblk m c 12 t = V m c main_v18 :=
  Memref.read_access_unit_zero (Elt Ideal) main_v18
    (show (fun a => (win0_12.index t) a * main_v18.ty.shape.size a) = fun _ => 0 from
      funext fun a => by match a with | ⟨0, _⟩ => rfl | ⟨1, _⟩ => rfl) _ (V m c main_v18)

theorem iblk_13 (t : Fin cfg0.N) : iblk m c 13 t = V m c main_v20 :=
  Memref.read_access_unit_zero (Elt Ideal) main_v20
    (show (fun a => (win0_13.index t) a * main_v20.ty.shape.size a) = fun _ => 0 from
      funext fun a => by match a with | ⟨0, _⟩ => rfl | ⟨1, _⟩ => rfl) _ (V m c main_v20)

theorem iblk_14 (t : Fin cfg0.N) : iblk m c 14 t = V m c main_v21 :=
  Memref.read_access_unit_zero (Elt Ideal) main_v21
    (show (fun a => (win0_14.index t) a * main_v21.ty.shape.size a) = fun _ => 0 from
      funext fun a => by match a with | ⟨0, _⟩ => rfl | ⟨1, _⟩ => rfl) _ (V m c main_v21)

theorem iblk_15 (t : Fin cfg0.N) : iblk m c 15 t = V m c main_v23 :=
  Memref.read_access_unit_zero (Elt Ideal) main_v23
    (show (fun a => (win0_15.index t) a * main_v23.ty.shape.size a) = fun _ => 0 from
      funext fun a => by match a with | ⟨0, _⟩ => rfl | ⟨1, _⟩ => rfl) _ (V m c main_v23)

theorem iblk_16 (t : Fin cfg0.N) : iblk m c 16 t = V m c main_v24 :=
  Memref.read_access_unit_zero (Elt Ideal) main_v24
    (show (fun a => (win0_16.index t) a * main_v24.ty.shape.size a) = fun _ => 0 from
      funext fun a => by match a with | ⟨0, _⟩ => rfl | ⟨1, _⟩ => rfl) _ (V m c main_v24)

/-- So the body's parameters are the arguments', at every point. -/
theorem params_eq (t : Fin cfg0.N) : BlockTiles.params (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = params m c := by
  unfold BlockTiles.params params
  simp only [iblk_1, iblk_2, iblk_3, iblk_4, iblk_5, iblk_6, iblk_7, iblk_8, iblk_9, iblk_10, iblk_11, iblk_12, iblk_13, iblk_14, iblk_15, iblk_16]
  congr 1
  · exact funext (row_v8 m c)
  · exact funext (row_v9 m c)
  · exact funext (row_v10 m c)
  · exact funext (row_v11 m c)
  · exact funext fun k => funext fun i => funext fun j => taps_v1 m c i j k
  · exact funext (row_v12 m c)
  · exact funext fun j => funext fun i => joint_eq m c j i
  · exact funext fun j => funext fun i => weights_v14 m c i j
  · exact funext (row_v15 m c)
  · exact funext fun j => funext fun i => weights_v17 m c i j
  · exact funext (row_v18 m c)
  · exact funext fun j => funext fun i => weights_v20 m c i j
  · exact funext (row_v21 m c)
  · exact funext fun j => funext fun i => weights_v23 m c i j
  · exact funext (row_v24 m c)

/-- The token window moves one image per point. -/
theorem index_0 (t : Fin cfg0.N) : win0_0.index t 0 = t.val ∧ win0_0.index t 1 = 0 ∧ win0_0.index t 2 = 0 := by
  rcases fin_N0 t with rfl | rfl | rfl | rfl <;> decide

/-- So does the result's window. -/
theorem index_17 (t : Fin cfg0.N) : win0_17.index t 0 = t.val ∧ win0_17.index t 1 = 0 ∧ win0_17.index t 2 = 0 := by
  rcases fin_N0 t with rfl | rfl | rfl | rfl <;> decide

/-- The token window at point `t` is image `t`. -/
theorem tokens_eq (t : Fin cfg0.N) (b : Fin 4) (hb : t.val = b.val) : BlockTiles.tokens (iblk m c 0 t) = image m c b := by
  have hi := index_0 t
  funext n i
  unfold BlockTiles.tokens image iblk
  rw [View.read_apply]
  show V m c main_arg0 _ = _
  rw [V_main_arg0]
  congr 1
  funext a
  apply Fin.ext
  match a with
  | ⟨0, _⟩ => show win0_0.index t 0 * 1 + 1 * 0 = b.val; rw [hi.1]; simp only [Nat.mul_one, Nat.mul_zero, Nat.add_zero, hb]
  | ⟨1, _⟩ => show win0_0.index t 1 * 1024 + 1 * n.val = n.val; rw [hi.2.1]; omega
  | ⟨2, _⟩ => show win0_0.index t 2 * 384 + 1 * i.val = i.val; rw [hi.2.2]; omega

/-- The result array, entry by entry, when the scores of every image are bounded. -/
theorem result_apply (hB : ∀ b, BlockSpec.Bounded (params m c) (BlockSpec.emb (params m c) (image m c b)))
    (b : Fin 4) (n : Fin 1024) (i : Fin 384) :
    (dats m 0 c).arrAt 17 cfg0.N (ix3 b n i) = BlockSpec.block (params m c) (image m c b) n i := by
  have hN : b.val < cfg0.N := by
    have h4 : cfg0.N = 4 := N_0
    omega
  have hi := index_17 ⟨b.val, hN⟩
  have h := congrFun (Value.blocks17 m c ⟨b.val, hN⟩ (flush0_17 _)) (ix3 0 n i)
  rw [Value.flushed17, View.read_apply] at h
  have hx : ((cfg0.win 17).blk ⟨b.val, hN⟩).view.emb (ix3 0 n i) = ix3 b n i := by
    funext a
    apply Fin.ext
    match a with
    | ⟨0, _⟩ => show win0_17.index ⟨b.val, hN⟩ 0 * 1 + 1 * 0 = b.val; rw [hi.1]; simp only [Nat.mul_one, Nat.mul_zero, Nat.add_zero]
    | ⟨1, _⟩ => show win0_17.index ⟨b.val, hN⟩ 1 * 1024 + 1 * n.val = n.val; rw [hi.2.1]; omega
    | ⟨2, _⟩ => show win0_17.index ⟨b.val, hN⟩ 2 * 384 + 1 * i.val = i.val; rw [hi.2.2]; omega
  rw [hx] at h
  refine h.trans ?_
  have hp := params_eq m c ⟨b.val, hN⟩
  have ht := tokens_eq m c ⟨b.val, hN⟩ b rfl
  rw [← hp, ← ht]
  refine BlockTiles.out_apply _ _ _ _ _ _ _ _ _ _ _ _ _ _ _ _ _ ?_ n i
  rw [hp, ht]
  exact hB b

end BlockArray

end
-- ==== Proof.HostTiles.lean ====
/-
  The building blocks of the reference read at an index: layer normalization of the token array and of the board, the
  positional convolution with its residual.
-/
module

public import proofs.«01_k».proof.Proof.Scalars
public import proofs.«01_k».proof.Proof.Gen.ReferenceIdeal
public import Idealize.ShloMosaic.Lib.Pointwise
public import Idealize.ShloMosaic.Lib.Pipeline.Value

@[expose] public section

noncomputable section

open Idealize.ShloMosaic Cert.ReferenceIdeal Cert.ReferenceIdeal.Gen

namespace BlockHost

/-- Layer normalization over the channels of the token array. -/
def normFlat (x : FVec Ideal S4x1024x384 .f32) (g b : FVec Ideal S384 .f32) : FVec Ideal S4x1024x384 .f32 :=
  have v3 : FVec Ideal S4x1024x1 .f32 := Host.divf
    (broadcastInDim S4x1024x1 ![0, 1] bcast_S4x1024_S4x1024x1_0_1
      (Host.reduceAdd x (constant S_ .f32 0x00000000#32) reducesTo_S4x1024x384_S4x1024_d2 h_S_))
    (broadcastInDim S4x1024x1 ![] bcast_S_S4x1024x1 (constant S_ .f32 0x43C00000#32))
  have v5 : FVec Ideal S4x1024x384 .f32 := subf x (broadcastInDim S4x1024x384 ![0, 1, 2] bcast_S4x1024x1_S4x1024x384_0_1_2 v3)
  have v10 : FVec Ideal S4x1024x1 .f32 := Host.divf
    (broadcastInDim S4x1024x1 ![0, 1] bcast_S4x1024_S4x1024x1_0_1
      (Host.reduceAdd (mulf v5 v5) (constant S_ .f32 0x00000000#32) reducesTo_S4x1024x384_S4x1024_d2 h_S_))
    (broadcastInDim S4x1024x1 ![] bcast_S_S4x1024x1 (constant S_ .f32 0x43C00000#32))
  have v14 : FVec Ideal S4x1024x1 .f32 := addf v10 (broadcastInDim S4x1024x1 ![] bcast_S_S4x1024x1 (constant S_ .f32 0x358637BD#32))
  have v17 : FVec Ideal S4x1024x384 .f32 :=
    Host.divf v5 (broadcastInDim S4x1024x384 ![0, 1, 2] bcast_S4x1024x1_S4x1024x384_0_1_2 (Host.sqrt v14))
  have v20 : FVec Ideal S4x1024x384 .f32 := mulf v17
    (broadcastInDim S4x1024x384 ![0, 1, 2] bcast_S1x1x384_S4x1024x384_0_1_2 (broadcastInDim S1x1x384 ![2] bcast_S384_S1x1x384_2 g))
  addf v20
    (broadcastInDim S4x1024x384 ![0, 1, 2] bcast_S1x1x384_S4x1024x384_0_1_2 (broadcastInDim S1x1x384 ![2] bcast_S384_S1x1x384_2 b))

/-- It is the normalization of each row. -/
theorem normFlat_apply (x : FVec Ideal S4x1024x384 .f32) (g b : FVec Ideal S384 .f32) (i : Fin 4) (n : Fin 1024) (c : Fin 384) :
    normFlat x g b (ix3 i n c) = BlockSpec.norm (fun c => g (ix1 c)) (fun c => b (ix1 c)) (fun c => x (ix3 i n c)) c := by
  pointwise [normFlat]
  exact BlockSpec.norm_quotient (fun c => g (ix1 c)) (fun c => b (ix1 c)) (fun c => x (ix3 i n c)) c

/-- Layer normalization over the channels of the board. -/
def normBoard (x : FVec Ideal S4x32x32x384 .f32) (g b : FVec Ideal S384 .f32) : FVec Ideal S4x32x32x384 .f32 :=
  have v3 : FVec Ideal S4x32x32x1 .f32 := Host.divf
    (broadcastInDim S4x32x32x1 ![0, 1, 2] bcast_S4x32x32_S4x32x32x1_0_1_2
      (Host.reduceAdd x (constant S_ .f32 0x00000000#32) reducesTo_S4x32x32x384_S4x32x32_d3 h_S_))
    (broadcastInDim S4x32x32x1 ![] bcast_S_S4x32x32x1 (constant S_ .f32 0x43C00000#32))
  have v5 : FVec Ideal S4x32x32x384 .f32 := subf x (broadcastInDim S4x32x32x384 ![0, 1, 2, 3] bcast_S4x32x32x1_S4x32x32x384_0_1_2_3 v3)
  have v10 : FVec Ideal S4x32x32x1 .f32 := Host.divf
    (broadcastInDim S4x32x32x1 ![0, 1, 2] bcast_S4x32x32_S4x32x32x1_0_1_2
      (Host.reduceAdd (mulf v5 v5) (constant S_ .f32 0x00000000#32) reducesTo_S4x32x32x384_S4x32x32_d3 h_S_))
    (broadcastInDim S4x32x32x1 ![] bcast_S_S4x32x32x1 (constant S_ .f32 0x43C00000#32))
  have v14 : FVec Ideal S4x32x32x1 .f32 := addf v10 (broadcastInDim S4x32x32x1 ![] bcast_S_S4x32x32x1 (constant S_ .f32 0x358637BD#32))
  have v17 : FVec Ideal S4x32x32x384 .f32 :=
    Host.divf v5 (broadcastInDim S4x32x32x384 ![0, 1, 2, 3] bcast_S4x32x32x1_S4x32x32x384_0_1_2_3 (Host.sqrt v14))
  have v20 : FVec Ideal S4x32x32x384 .f32 := mulf v17
    (broadcastInDim S4x32x32x384 ![0, 1, 2, 3] bcast_S1x1x1x384_S4x32x32x384_0_1_2_3
      (broadcastInDim S1x1x1x384 ![3] bcast_S384_S1x1x1x384_3 g))
  addf v20
    (broadcastInDim S4x32x32x384 ![0, 1, 2, 3] bcast_S1x1x1x384_S4x32x32x384_0_1_2_3
      (broadcastInDim S1x1x1x384 ![3] bcast_S384_S1x1x1x384_3 b))

/-- It is the normalization of each row. -/
theorem normBoard_apply (x : FVec Ideal S4x32x32x384 .f32) (g b : FVec Ideal S384 .f32) (i : Fin 4) (r q : Fin 32) (c : Fin 384) :
    normBoard x g b (ix4 i r q c)
      = BlockSpec.norm (fun c => g (ix1 c)) (fun c => b (ix1 c)) (fun c => x (ix4 i r q c)) c := by
  pointwise [normBoard]
  exact BlockSpec.norm_quotient (fun c => g (ix1 c)) (fun c => b (ix1 c)) (fun c => x (ix4 i r q c)) c

/-- The token array as a board of channels. -/
def board (x : FVec Ideal S4x1024x384 .f32) : FVec Ideal S4x384x32x32 .f32 :=
  transpose S4x384x32x32 [0, 3, 1, 2] (shapeCast S4x32x32x384 x shapeCasts_S4x1024x384_S4x32x32x384)
    transposes_S4x32x32x384_S4x384x32x32_0_3_1_2

theorem board_apply (x : FVec Ideal S4x1024x384 .f32) (i : Fin 4) (c : Fin 384) (r q : Fin 32) :
    board x (ix4 i c r q) = x (ix3 i ⟨r.val * 32 + q.val, by omega⟩ c) := by
  pointwise [board]

/-- The board with a border of zeros. -/
def padded (t : FVec Ideal S4x384x32x32 .f32) : FVec Ideal S4x384x34x34 .f32 :=
  pad S4x384x34x34 ![0, 0, 1, 1] ![0, 0, 1, 1] ![0, 0, 0, 0] t (constant S_ .f32 0x00000000#32)
    pads_S4x384x32x32_S4x384x34x34_000_000_110_110 h_S_

theorem padded_apply (t : FVec Ideal S4x384x32x32 .f32) (i : Fin 4) (c : Fin 384) (r q : Fin 34) :
    padded t (ix4 i c r q)
      = if h : (1 ≤ r.val ∧ r.val - 1 < 32) ∧ (1 ≤ q.val ∧ q.val - 1 < 32) then
          t (ix4 i c ⟨r.val - 1, by omega⟩ ⟨q.val - 1, by omega⟩)
        else 0 := by
  pointwise [padded]

/-- One shifted product of the convolution. -/
def shifted (i j : Nat) (xp : FVec Ideal S4x384x34x34 .f32) (w : FVec Ideal S384x1x3x3 .f32)
    (hs : S4x384x34x34.Slices ![0, 0, i, j] S4x384x32x32) (hw : S384x1x3x3.Slices ![0, 0, i, j] S384x1x1x1) :
    FVec Ideal S4x384x32x32 .f32 :=
  mulf (extractStridedSlice S4x384x32x32 ![0, 0, i, j] xp hs)
    (broadcastInDim S4x384x32x32 ![0, 1, 2, 3] bcast_S1x384x1x1_S4x384x32x32_0_1_2_3
      (broadcastInDim S1x384x1x1 ![1] bcast_S384_S1x384x1x1_1
        (shapeCast S384 (extractStridedSlice S384x1x1x1 ![0, 0, i, j] w hw) shapeCasts_S384x1x1x1_S384)))

theorem shifted_apply (i j : Fin 3) (xp : FVec Ideal S4x384x34x34 .f32) (w : FVec Ideal S384x1x3x3 .f32)
    (hs : S4x384x34x34.Slices ![0, 0, i.val, j.val] S4x384x32x32) (hw : S384x1x3x3.Slices ![0, 0, i.val, j.val] S384x1x1x1)
    (b : Fin 4) (c : Fin 384) (r q : Fin 32) :
    shifted i j xp w hs hw (ix4 b c r q)
      = xp (ix4 b c ⟨i.val + r.val, by omega⟩ ⟨j.val + q.val, by omega⟩) * w (ix4 c 0 i j) := by
  pointwise [shifted]

/-- A position of the bordered board is a tap of the token matrix. -/
theorem padded_board (x : FVec Ideal S4x1024x384 .f32) (b : Fin 4) (c : Fin 384) (r q : Fin 32) (i j : Fin 3) :
    padded (board x) (ix4 b c ⟨i.val + r.val, by omega⟩ ⟨j.val + q.val, by omega⟩)
      = BlockSpec.tap (fun n c => x (ix3 b n c)) i j ⟨r.val * 32 + q.val, by omega⟩ c := by
  rw [padded_apply, BlockSpec.tap]
  have e1 : (r.val * 32 + q.val) / 32 = r.val := by omega
  have e2 : (r.val * 32 + q.val) % 32 = q.val := by omega
  by_cases h : (1 ≤ i.val + r.val ∧ i.val + r.val - 1 < 32) ∧ (1 ≤ j.val + q.val ∧ j.val + q.val - 1 < 32)
  · rw [dif_pos h, dif_pos (by dsimp only; omega), board_apply]
    exact congrArg (fun z => x (ix3 b z c)) (Fin.ext (by dsimp only; omega))
  · rw [dif_neg h, dif_neg (by dsimp only; omega)]

/-- One shifted product, of the bordered board. -/
theorem shifted_board (x : FVec Ideal S4x1024x384 .f32) (w : FVec Ideal S384x1x3x3 .f32) (i j : Nat) (hi : i < 3) (hj : j < 3)
    (hs : S4x384x34x34.Slices ![0, 0, i, j] S4x384x32x32) (hw : S384x1x3x3.Slices ![0, 0, i, j] S384x1x1x1)
    (b : Fin 4) (c : Fin 384) (r q : Fin 32) :
    shifted i j (padded (board x)) w hs hw (ix4 b c r q)
      = BlockSpec.tap (fun n c => x (ix3 b n c)) i j ⟨r.val * 32 + q.val, by omega⟩ c * w (ix4 c 0 ⟨i, hi⟩ ⟨j, hj⟩) :=
  (shifted_apply ⟨i, hi⟩ ⟨j, hj⟩ _ w hs hw b c r q).trans
    (congrArg (· * w (ix4 c 0 ⟨i, hi⟩ ⟨j, hj⟩)) (padded_board x b c r q ⟨i, hi⟩ ⟨j, hj⟩))

/-- The token array with its positional convolution and the convolution's bias, as a board. -/
def embedBoard (x : FVec Ideal S4x1024x384 .f32) (w : FVec Ideal S384x1x3x3 .f32) (b : FVec Ideal S384 .f32) :
    FVec Ideal S4x32x32x384 .f32 :=
  have xp : FVec Ideal S4x384x34x34 .f32 := padded (board x)
  have v27 : FVec Ideal S4x384x32x32 .f32 := broadcastInDim S4x384x32x32 ![] bcast_S_S4x384x32x32 (constant S_ .f32 0x00000000#32)
  have v48 : FVec Ideal S4x384x32x32 .f32 := addf (addf (addf v27
    (shifted 0 0 xp w slices_S4x384x34x34_S4x384x32x32_0_0_0_0 slices_S384x1x3x3_S384x1x1x1_0_0_0_0))
    (shifted 0 1 xp w slices_S4x384x34x34_S4x384x32x32_0_0_0_1 slices_S384x1x3x3_S384x1x1x1_0_0_0_1))
    (shifted 0 2 xp w slices_S4x384x34x34_S4x384x32x32_0_0_0_2 slices_S384x1x3x3_S384x1x1x1_0_0_0_2)
  have v69 : FVec Ideal S4x384x32x32 .f32 := addf (addf (addf v48
    (shifted 1 0 xp w slices_S4x384x34x34_S4x384x32x32_0_0_1_0 slices_S384x1x3x3_S384x1x1x1_0_0_1_0))
    (shifted 1 1 xp w slices_S4x384x34x34_S4x384x32x32_0_0_1_1 slices_S384x1x3x3_S384x1x1x1_0_0_1_1))
    (shifted 1 2 xp w slices_S4x384x34x34_S4x384x32x32_0_0_1_2 slices_S384x1x3x3_S384x1x1x1_0_0_1_2)
  have v90 : FVec Ideal S4x384x32x32 .f32 := addf (addf (addf v69
    (shifted 2 0 xp w slices_S4x384x34x34_S4x384x32x32_0_0_2_0 slices_S384x1x3x3_S384x1x1x1_0_0_2_0))
    (shifted 2 1 xp w slices_S4x384x34x34_S4x384x32x32_0_0_2_1 slices_S384x1x3x3_S384x1x1x1_0_0_2_1))
    (shifted 2 2 xp w slices_S4x384x34x34_S4x384x32x32_0_0_2_2 slices_S384x1x3x3_S384x1x1x1_0_0_2_2)
  have v93 : FVec Ideal S4x384x32x32 .f32 := addf v90
    (broadcastInDim S4x384x32x32 ![0, 1, 2, 3] bcast_S1x384x1x1_S4x384x32x32_0_1_2_3
      (broadcastInDim S1x384x1x1 ![1] bcast_S384_S1x384x1x1_1 b))
  transpose S4x32x32x384 [0, 2, 3, 1] (addf (board x) v93) transposes_S4x384x32x32_S4x32x32x384_0_2_3_1

/-- It is the embedding of the token matrix of each image. -/
theorem embedBoard_apply (x : FVec Ideal S4x1024x384 .f32) (w : FVec Ideal S384x1x3x3 .f32) (b : FVec Ideal S384 .f32)
    (k : Fin 4) (r q : Fin 32) (c : Fin 384) :
    embedBoard x w b (ix4 k r q c)
      = BlockSpec.embed (fun c i j => w (ix4 c 0 i j)) (fun c => b (ix1 c)) (fun n c => x (ix3 k n c))
          ⟨r.val * 32 + q.val, by omega⟩ c := by
  pointwise [embedBoard]
  rw [board_apply, shifted_board x w 0 0 (by decide) (by decide), shifted_board x w 0 1 (by decide) (by decide),
    shifted_board x w 0 2 (by decide) (by decide), shifted_board x w 1 0 (by decide) (by decide),
    shifted_board x w 1 1 (by decide) (by decide), shifted_board x w 1 2 (by decide) (by decide),
    shifted_board x w 2 0 (by decide) (by decide), shifted_board x w 2 1 (by decide) (by decide),
    shifted_board x w 2 2 (by decide) (by decide), BlockSpec.embed, BlockSpec.conv, zero_add]
  exact (add_assoc (G := EReal) _ _ _).symm

end BlockHost

end
-- ==== Proof.HostAttention.lean ====
/-
  The reference's attention read at an index: the joint projection cut into queries, keys and values, the scores, the
  softmax weights, the mix and its projection.
-/
module

public import proofs.«01_k».proof.Proof.HostTiles

@[expose] public section

noncomputable section

open Idealize.ShloMosaic Cert.ReferenceIdeal Cert.ReferenceIdeal.Gen

namespace BlockHost

/-- The joint projection, by part, image, head, token and depth. -/
def parts (X : FVec Ideal S4x1024x384 .f32) (W : FVec Ideal S1152x384 .f32) : FVec Ideal S3x4x8x1024x48 .f32 :=
  transpose S3x4x8x1024x48 [2, 0, 3, 1, 4]
    (shapeCast S4x1024x3x8x48
      (Host.dotGeneral dot_S4x1024x384_S384x1152_S4x1024x1152_2_0_01_1_n_n none X
        (transpose S384x1152 [1, 0] W transposes_S1152x384_S384x1152_1_0))
      shapeCasts_S4x1024x1152_S4x1024x3x8x48)
    transposes_S4x1024x3x8x48_S3x4x8x1024x48_2_0_3_1_4

/-- The queries. -/
def queries (X : FVec Ideal S4x1024x384 .f32) (W : FVec Ideal S1152x384 .f32) : FVec Ideal S4x8x1024x48 .f32 :=
  shapeCast S4x8x1024x48 (extractStridedSlice S1x4x8x1024x48 ![0, 0, 0, 0, 0] (parts X W)
    slices_S3x4x8x1024x48_S1x4x8x1024x48_0_0_0_0_0) shapeCasts_S1x4x8x1024x48_S4x8x1024x48

/-- The keys. -/
def keys (X : FVec Ideal S4x1024x384 .f32) (W : FVec Ideal S1152x384 .f32) : FVec Ideal S4x8x1024x48 .f32 :=
  shapeCast S4x8x1024x48 (extractStridedSlice S1x4x8x1024x48 ![1, 0, 0, 0, 0] (parts X W)
    slices_S3x4x8x1024x48_S1x4x8x1024x48_1_0_0_0_0) shapeCasts_S1x4x8x1024x48_S4x8x1024x48

/-- The values. -/
def values (X : FVec Ideal S4x1024x384 .f32) (W : FVec Ideal S1152x384 .f32) : FVec Ideal S4x8x1024x48 .f32 :=
  shapeCast S4x8x1024x48 (extractStridedSlice S1x4x8x1024x48 ![2, 0, 0, 0, 0] (parts X W)
    slices_S3x4x8x1024x48_S1x4x8x1024x48_2_0_0_0_0) shapeCasts_S1x4x8x1024x48_S4x8x1024x48

variable (X : FVec Ideal S4x1024x384 .f32) (W : FVec Ideal S1152x384 .f32) (b : Fin 4) (h : Fin 8)

/-- An entry of the joint projection, its row number spelled two ways. -/
theorem qkv_entry (n : Fin 1024) (j j' : Fin 1152) (e : j.val = j'.val) :
    ∑ x, X (ix3 b n x) * W (ix2 j x) = BlockSpec.qkv (fun j i => W (ix2 j i)) (fun n i => X (ix3 b n i)) n j' := by
  rw [Fin.ext e]; rfl

/-- A query is an entry of the joint projection. -/
theorem queries_apply (n : Fin 1024) (d : Fin 48) :
    queries X W (ix4 b h n d)
      = BlockSpec.qkv (fun j i => W (ix2 j i)) (fun n i => X (ix3 b n i)) n ⟨48 * h.val + d.val, by omega⟩ := by
  pointwise [queries, parts]
  exact qkv_entry X W b n _ _ (by dsimp only; omega)

/-- A key is an entry of the joint projection. -/
theorem keys_apply (n : Fin 1024) (d : Fin 48) :
    keys X W (ix4 b h n d)
      = BlockSpec.qkv (fun j i => W (ix2 j i)) (fun n i => X (ix3 b n i)) n ⟨384 + 48 * h.val + d.val, by omega⟩ := by
  pointwise [keys, parts]
  exact qkv_entry X W b n _ _ (by dsimp only; omega)

/-- A value is an entry of the joint projection. -/
theorem values_apply (n : Fin 1024) (d : Fin 48) :
    values X W (ix4 b h n d)
      = BlockSpec.qkv (fun j i => W (ix2 j i)) (fun n i => X (ix3 b n i)) n ⟨768 + (48 * h.val + d.val), by omega⟩ := by
  pointwise [values, parts]
  exact qkv_entry X W b n _ _ (by dsimp only; omega)

/-- The scores, before their scale. -/
def scores : FVec Ideal S4x8x1024x1024 .f32 :=
  Host.dotGeneral dot_S4x8x1024x48_S4x8x1024x48_S4x8x1024x1024_3_3_2_2_01_01 none (queries X W) (keys X W)

theorem scores_apply (n k : Fin 1024) :
    scores X W (ix4 b h n k) = BlockSpec.score (fun j i => W (ix2 j i)) (fun n i => X (ix3 b n i)) h n k := by
  pointwise [scores]
  exact Finset.sum_congr rfl fun d _ => congrArg₂ (· * ·) (queries_apply X W b h n d) (keys_apply X W b h k d)

/-- The scores over the root of the head's width. -/
def scaled (S : FVec Ideal S4x8x1024x1024 .f32) : FVec Ideal S4x8x1024x1024 .f32 :=
  Host.divf S (broadcastInDim S4x8x1024x1024 ![] bcast_S_S4x8x1024x1024 (Host.sqrt (constant S_ .f32 0x42400000#32)))

/-- The root of 48, as the reference computes it. -/
theorem root_48 : Ideal.sqrt (Ideal.ofBits .f32 0x42400000#32) = ((Real.sqrt 48 : ℝ) : EReal) := by
  rw [BlockSpec.word_48, Ideal.sqrt_coe, if_neg (by norm_num)]

theorem scaled_apply (S : FVec Ideal S4x8x1024x1024 .f32) (n k : Fin 1024) :
    scaled S (ix4 b h n k) = Ideal.div (S (ix4 b h n k)) ((Real.sqrt 48 : ℝ) : EReal) := by
  pointwise [scaled]
  rw [root_48]

/-- The largest entry of each row. -/
def rowMax (S : FVec Ideal S4x8x1024x1024 .f32) : FVec Ideal S4x8x1024 .f32 :=
  Host.reduce FloatOps.maximumf S (constant S_ .f32 0xFF800000#32) reducesTo_S4x8x1024x1024_S4x8x1024_d3 h_S_

theorem rowMax_apply (S : FVec Ideal S4x8x1024x1024 .f32) (n : Fin 1024) :
    rowMax S (ix3 b h n) = Finset.univ.fold max (Ideal.ofBits .f32 0xFF800000#32) (fun k => S (ix4 b h n k)) := by
  pointwise [rowMax]

/-- The word of negative infinity. -/
theorem word_bot : Ideal.ofBits .f32 0xFF800000#32 = ⊥ := by
  simp [Ideal.ofBits, Ideal.ieee]

/-- The largest entry of a row of reals is a real. -/
theorem rowMax_real (S : FVec Ideal S4x8x1024x1024 .f32) (n : Fin 1024)
    (hS : ∀ k, ∃ x : ℝ, S (ix4 b h n k) = (x : EReal)) : ∃ M : ℝ, rowMax S (ix3 b h n) = (M : EReal) := by
  obtain ⟨M, hM⟩ := BlockSpec.fold_max_real Finset.univ ⟨0, Finset.mem_univ _⟩ (fun k => S (ix4 b h n k)) hS
  exact ⟨M, by rw [rowMax_apply, word_bot]; exact hM⟩

/-- The exponentials of the entries less a number for each row, negative infinity aside. -/
def exps (S : FVec Ideal S4x8x1024x1024 .f32) (mx : FVec Ideal S4x8x1024 .f32) : FVec Ideal S4x8x1024x1024 .f32 :=
  Host.exp (subf S
    (broadcastInDim S4x8x1024x1024 ![0, 1, 2, 3] bcast_S4x8x1024x1_S4x8x1024x1024_0_1_2_3
      (broadcastInDim S4x8x1024x1 ![0, 1, 2] bcast_S4x8x1024_S4x8x1024x1_0_1_2
        (maximumf (broadcastInDim S4x8x1024 ![] bcast_S_S4x8x1024 (constant S_ .f32 0xFF800000#32)) mx))))

theorem exps_apply (S : FVec Ideal S4x8x1024x1024 .f32) (mx : FVec Ideal S4x8x1024 .f32) (n k : Fin 1024) :
    exps S mx (ix4 b h n k) = Ideal.exp (S (ix4 b h n k) - mx (ix3 b h n)) := by
  pointwise [exps]
  rw [word_bot, max_eq_right bot_le]

/-- The entries over the sum of their row. -/
def shares (E : FVec Ideal S4x8x1024x1024 .f32) : FVec Ideal S4x8x1024x1024 .f32 :=
  Host.divf E
    (broadcastInDim S4x8x1024x1024 ![0, 1, 2, 3] bcast_S4x8x1024x1_S4x8x1024x1024_0_1_2_3
      (broadcastInDim S4x8x1024x1 ![0, 1, 2] bcast_S4x8x1024_S4x8x1024x1_0_1_2
        (Host.reduceAdd E (constant S_ .f32 0x00000000#32) reducesTo_S4x8x1024x1024_S4x8x1024_d3 h_S_)))

theorem shares_apply (E : FVec Ideal S4x8x1024x1024 .f32) (n k : Fin 1024) :
    shares E (ix4 b h n k) = Ideal.div (E (ix4 b h n k)) (∑ i, E (ix4 b h n i)) := by
  pointwise [shares]

/-- The softmax of the scaled scores. -/
def weights (S : FVec Ideal S4x8x1024x1024 .f32) : FVec Ideal S4x8x1024x1024 .f32 := shares (exps (scaled S) (rowMax (scaled S)))

/-- Of real scores it is the softmax weight. -/
theorem weights_apply (S : FVec Ideal S4x8x1024x1024 .f32) (n : Fin 1024)
    (hS : ∀ k, ∃ x : ℝ, S (ix4 b h n k) = (x : EReal)) (k : Fin 1024) :
    weights S (ix4 b h n k) = BlockSpec.weight (fun k => S (ix4 b h n k)) k := by
  obtain ⟨M, hM⟩ := rowMax_real b h (scaled S) n fun k => by
    obtain ⟨x, hx⟩ := hS k
    exact ⟨x * (Real.sqrt 48)⁻¹, by
      rw [scaled_apply, hx, BlockSpec.div_real _ _ (Real.sqrt_pos.2 (by norm_num)), ← EReal.coe_mul]⟩
  have e : ∀ i, exps (scaled S) (rowMax (scaled S)) (ix4 b h n i)
      = Ideal.exp (Ideal.div (S (ix4 b h n i)) ((Real.sqrt 48 : ℝ) : EReal) - (M : EReal)) := fun i => by
    rw [exps_apply, hM, scaled_apply]
  have hw := BlockSpec.shifted_weight (fun k => S (ix4 b h n k)) hS M k
  rw [zero_add] at hw
  rw [weights, shares_apply, e k]
  refine Eq.trans ?_ hw
  exact congrArg (Ideal.div _) (Finset.sum_congr rfl fun i _ => e i)

/-- The weighted values, heads joined, through the output projection. -/
def attend (P : FVec Ideal S384x384 .f32) (p : FVec Ideal S384 .f32) : FVec Ideal S4x1024x384 .f32 :=
  have v146 : FVec Ideal S4x8x1024x48 .f32 :=
    Host.dotGeneral dot_S4x8x1024x1024_S4x8x1024x48_S4x8x1024x48_3_2_2_3_01_01 none (weights (scores X W)) (values X W)
  have v148 : FVec Ideal S4x1024x384 .f32 :=
    shapeCast S4x1024x384 (transpose S4x1024x8x48 [0, 2, 1, 3] v146 transposes_S4x8x1024x48_S4x1024x8x48_0_2_1_3)
      shapeCasts_S4x1024x8x48_S4x1024x384
  addf
    (Host.dotGeneral dot_S4x1024x384_S384x384_S4x1024x384_2_0_01_1_n_n none v148
      (transpose S384x384 [1, 0] P transposes_S384x384_S384x384_1_0))
    (broadcastInDim S4x1024x384 ![0, 1, 2] bcast_S1x1x384_S4x1024x384_0_1_2 (broadcastInDim S1x1x384 ![2] bcast_S384_S1x1x384_2 p))

theorem attend_apply (P : FVec Ideal S384x384 .f32) (p : FVec Ideal S384 .f32)
    (hS : ∀ h n k, ∃ x : ℝ, BlockSpec.score (fun j i => W (ix2 j i)) (fun n i => X (ix3 b n i)) h n k = (x : EReal))
    (n : Fin 1024) (c : Fin 384) :
    attend X W P p (ix3 b n c)
      = BlockSpec.linear (fun j i => P (ix2 j i)) (fun j => p (ix1 j))
          (BlockSpec.attention (fun j i => W (ix2 j i)) (fun n i => X (ix3 b n i)) n) c := by
  pointwise [attend]
  refine congrArg (· + p (ix1 c)) (Finset.sum_congr rfl fun x _ => congrArg (· * P (ix2 c x)) ?_)
  refine Finset.sum_congr rfl fun k _ => congrArg₂ (· * ·) ?_ ?_
  · refine (weights_apply b _ _ n (fun k => ?_) k).trans (congrArg (BlockSpec.weight · k) (funext fun k => scores_apply X W b _ n k))
    rw [scores_apply]
    exact hS _ n k
  · rw [values_apply]
    exact congrArg (BlockSpec.qkv _ _ k) (Fin.ext (by dsimp only; omega))

end BlockHost

end
-- ==== Proof.HostTail.lean ====
/-
  The reference's gated MLP with its residual and the last normalization read at an index, and the sum of both attentions.
-/
module

public import proofs.«01_k».proof.Proof.HostAttention

@[expose] public section

noncomputable section

open Idealize.ShloMosaic Cert.ReferenceIdeal Cert.ReferenceIdeal.Gen

namespace BlockHost

/-- The hidden board of the MLP. -/
def hiddenBoard (z : FVec Ideal S4x32x32x384 .f32) (A : FVec Ideal S1536x384 .f32) (aa : FVec Ideal S1536 .f32) :
    FVec Ideal S4x32x32x1536 .f32 :=
  have v221 : FVec Ideal S4x32x32x1536 .f32 := addf
    (Host.dotGeneral dot_S4x32x32x384_S384x1536_S4x32x32x1536_3_0_012_1_n_n none z
      (transpose S384x1536 [1, 0] A transposes_S1536x384_S384x1536_1_0))
    (broadcastInDim S4x32x32x1536 ![0, 1, 2, 3] bcast_S1x1x1x1536_S4x32x32x1536_0_1_2_3
      (broadcastInDim S1x1x1x1536 ![3] bcast_S1536_S1x1x1x1536_3 aa))
  mulf (mulf (broadcastInDim S4x32x32x1536 ![] bcast_S_S4x32x32x1536 (constant S_ .f32 0x3F000000#32)) v221)
    (Host.erfc (mulf (Host.negf v221) (broadcastInDim S4x32x32x1536 ![] bcast_S_S4x32x32x1536 (constant S_ .f32 0x3F3504F3#32))))

theorem hiddenBoard_apply (z : FVec Ideal S4x32x32x384 .f32) (A : FVec Ideal S1536x384 .f32) (aa : FVec Ideal S1536 .f32)
    (b : Fin 4) (r q : Fin 32) (j : Fin 1536) :
    hiddenBoard z A aa (ix4 b r q j)
      = BlockSpec.gelu (BlockSpec.linear (fun j i => A (ix2 j i)) (fun j => aa (ix1 j)) (fun i => z (ix4 b r q i)) j) := by
  pointwise [hiddenBoard]
  exact BlockSpec.gelu_erfc _

/-- A linear layer from the hidden board. -/
def secondBoard (e : FVec Ideal S4x32x32x1536 .f32) (B : FVec Ideal S384x1536 .f32) (bb : FVec Ideal S384 .f32) :
    FVec Ideal S4x32x32x384 .f32 :=
  addf
    (Host.dotGeneral dot_S4x32x32x1536_S1536x384_S4x32x32x384_3_0_012_1_n_n none e
      (transpose S1536x384 [1, 0] B transposes_S384x1536_S1536x384_1_0))
    (broadcastInDim S4x32x32x384 ![0, 1, 2, 3] bcast_S1x1x1x384_S4x32x32x384_0_1_2_3
      (broadcastInDim S1x1x1x384 ![3] bcast_S384_S1x1x1x384_3 bb))

theorem secondBoard_apply (e : FVec Ideal S4x32x32x1536 .f32) (B : FVec Ideal S384x1536 .f32) (bb : FVec Ideal S384 .f32)
    (b : Fin 4) (r q : Fin 32) (c : Fin 384) :
    secondBoard e B bb (ix4 b r q c)
      = BlockSpec.linear (fun j i => B (ix2 j i)) (fun j => bb (ix1 j)) (fun i => e (ix4 b r q i)) c := by
  pointwise [secondBoard]
  rfl

/-- The board with the gated MLP added. -/
def mlpBoard (z : FVec Ideal S4x32x32x384 .f32) (A : FVec Ideal S1536x384 .f32) (aa : FVec Ideal S1536 .f32)
    (G : FVec Ideal S384x1536 .f32) (gg : FVec Ideal S384 .f32) (B : FVec Ideal S384x1536 .f32) (bb : FVec Ideal S384 .f32) :
    FVec Ideal S4x32x32x384 .f32 :=
  addf z (mulf (secondBoard (hiddenBoard z A aa) B bb) (secondBoard (hiddenBoard z A aa) G gg))

theorem mlpBoard_apply (z : FVec Ideal S4x32x32x384 .f32) (A : FVec Ideal S1536x384 .f32) (aa : FVec Ideal S1536 .f32)
    (G : FVec Ideal S384x1536 .f32) (gg : FVec Ideal S384 .f32) (B : FVec Ideal S384x1536 .f32) (bb : FVec Ideal S384 .f32)
    (b : Fin 4) (r q : Fin 32) (c : Fin 384) :
    mlpBoard z A aa G gg B bb (ix4 b r q c)
      = z (ix4 b r q c)
        + BlockSpec.linear (fun j i => B (ix2 j i)) (fun j => bb (ix1 j))
            (fun j => BlockSpec.gelu (BlockSpec.linear (fun j i => A (ix2 j i)) (fun j => aa (ix1 j)) (fun i => z (ix4 b r q i)) j)) c
          * BlockSpec.linear (fun j i => G (ix2 j i)) (fun j => gg (ix1 j))
            (fun j => BlockSpec.gelu (BlockSpec.linear (fun j i => A (ix2 j i)) (fun j => aa (ix1 j)) (fun i => z (ix4 b r q i)) j)) c := by
  pointwise [mlpBoard]
  rw [secondBoard_apply, secondBoard_apply]
  simp only [hiddenBoard_apply]

/-- The board as a token array. -/
def flat (y : FVec Ideal S4x32x32x384 .f32) : FVec Ideal S4x1024x384 .f32 :=
  shapeCast S4x1024x384 y shapeCasts_S4x32x32x384_S4x1024x384

theorem flat_apply (y : FVec Ideal S4x32x32x384 .f32) (b : Fin 4) (n : Fin 1024) (c : Fin 384) :
    flat y (ix3 b n c) = y (ix4 b ⟨n.val / 32, by omega⟩ ⟨n.val % 32, by omega⟩ c) := by
  pointwise [flat]

/-- A token array added to the board. -/
def joined (y : FVec Ideal S4x32x32x384 .f32) (o : FVec Ideal S4x1024x384 .f32) : FVec Ideal S4x32x32x384 .f32 :=
  addf y (shapeCast S4x32x32x384 o shapeCasts_S4x1024x384_S4x32x32x384)

theorem joined_apply (y : FVec Ideal S4x32x32x384 .f32) (o : FVec Ideal S4x1024x384 .f32) (b : Fin 4) (r q : Fin 32) (c : Fin 384) :
    joined y o (ix4 b r q c) = y (ix4 b r q c) + o (ix3 b ⟨r.val * 32 + q.val, by omega⟩ c) := by
  pointwise [joined]

/-- The board back in the layout of the argument. -/
def back (y : FVec Ideal S4x32x32x384 .f32) : FVec Ideal S4x1024x384 .f32 :=
  transpose S4x1024x384 [0, 2, 1]
    (shapeCast S4x384x1024 (transpose S4x384x32x32 [0, 3, 1, 2] y transposes_S4x32x32x384_S4x384x32x32_0_3_1_2)
      shapeCasts_S4x384x32x32_S4x384x1024)
    transposes_S4x384x1024_S4x1024x384_0_2_1

theorem back_apply (y : FVec Ideal S4x32x32x384 .f32) (b : Fin 4) (n : Fin 1024) (c : Fin 384) :
    back y (ix3 b n c) = y (ix4 b ⟨n.val / 32, by omega⟩ ⟨n.val % 32, by omega⟩ c) := by
  pointwise [back]

end BlockHost

end
-- ==== Proof.HostValue.lean ====
/-
  What the reference computes: its result, read at an image, a token and a channel, is the block of that image.
-/
module

public import proofs.«01_k».proof.Proof.HostTail
public import proofs.«01_k».proof.Proof.Gen.ReferenceIdeal.Read

@[expose] public section

noncomputable section

open Idealize.ShloMosaic Cert.ReferenceIdeal Cert.ReferenceIdeal.Gen Cert.ReferenceIdeal.Read

namespace BlockHost

variable (x0 : FVec Ideal S4x1024x384 .f32) (x1 x2 x3 x4 : FVec Ideal S384 .f32) (x5 : FVec Ideal S384x1x3x3 .f32)
  (x6 : FVec Ideal S384 .f32) (x7 : FVec Ideal S1152x384 .f32) (x8 : FVec Ideal S384x384 .f32) (x9 : FVec Ideal S384 .f32)
  (x10 : FVec Ideal S1536x384 .f32) (x11 : FVec Ideal S1536 .f32) (x12 : FVec Ideal S384x1536 .f32) (x13 : FVec Ideal S384 .f32)
  (x14 : FVec Ideal S384x1536 .f32) (x15 : FVec Ideal S384 .f32)

/-- The parameters held by the reference's arguments. -/
def params : BlockSpec.Params where
  g1 i := x1 (ix1 i)
  b1 i := x2 (ix1 i)
  g2 i := x3 (ix1 i)
  b2 i := x4 (ix1 i)
  pw k i j := x5 (ix4 k 0 i j)
  pb i := x6 (ix1 i)
  W j i := x7 (ix2 j i)
  P j i := x8 (ix2 j i)
  pp i := x9 (ix1 i)
  A j i := x10 (ix2 j i)
  aa i := x11 (ix1 i)
  G j i := x12 (ix2 j i)
  gg i := x13 (ix1 i)
  B j i := x14 (ix2 j i)
  bb i := x15 (ix1 i)

/-- The tokens of image `b`. -/
def image (b : Fin 4) : BlockSpec.Tokens := fun n i => x0 (ix3 b n i)

/-! ### The stages of the reference's value, named -/

theorem stage_v95 : val_main_v95 (F := Ideal) x0 x1 x2 x5 x6 = embedBoard (normFlat x0 x1 x2) x5 x6 := rfl

theorem stage_v120 : val_main_v120 (F := Ideal) x0 x1 x2 x5 x6 = flat (normBoard (val_main_v95 (F := Ideal) x0 x1 x2 x5 x6) x1 x2) := rfl

theorem stage_v156 : val_main_v156 (F := Ideal) x0 x1 x2 x5 x6 = flat (val_main_v95 (F := Ideal) x0 x1 x2 x5 x6) := rfl

theorem stage_v153 : val_main_v153 (F := Ideal) x0 x1 x2 x5 x6 x7 x8 x9
    = attend (val_main_v120 (F := Ideal) x0 x1 x2 x5 x6) x7 x8 x9 := rfl

theorem stage_v189 : val_main_v189 (F := Ideal) x0 x1 x2 x5 x6 x7 x8 x9
    = attend (val_main_v156 (F := Ideal) x0 x1 x2 x5 x6) x7 x8 x9 := rfl

theorem stage_v216 : val_main_v216 (F := Ideal) x0 x1 x2 x5 x6 x7 x8 x9
    = addf (joined (val_main_v95 (F := Ideal) x0 x1 x2 x5 x6) (val_main_v153 (F := Ideal) x0 x1 x2 x5 x6 x7 x8 x9))
        (normBoard (joined (val_main_v95 (F := Ideal) x0 x1 x2 x5 x6) (val_main_v189 (F := Ideal) x0 x1 x2 x5 x6 x7 x8 x9)) x1 x2) := rfl

theorem stage_v240 : val_main_v240 (F := Ideal) x0 x1 x2 x5 x6 x7 x8 x9 x10 x11 x12 x13 x14 x15
    = mlpBoard (val_main_v216 (F := Ideal) x0 x1 x2 x5 x6 x7 x8 x9) x10 x11 x12 x13 x14 x15 := rfl

theorem stage_v267 : val_main_v267 (F := Ideal) x0 x1 x2 x3 x4 x5 x6 x7 x8 x9 x10 x11 x12 x13 x14 x15
    = back (normBoard (val_main_v240 (F := Ideal) x0 x1 x2 x5 x6 x7 x8 x9 x10 x11 x12 x13 x14 x15) x3 x4) := rfl

/-! ### The stages read -/

/-- Row and column of a token give the token back. -/
theorem token_eq (n : Fin 1024) (h : n.val / 32 * 32 + n.val % 32 < 1024) : (⟨n.val / 32 * 32 + n.val % 32, h⟩ : Fin 1024) = n :=
  Fin.ext (by dsimp only; omega)

/-- The embedding of an image. -/
theorem emb_read (b : Fin 4) (r q : Fin 32) (c : Fin 384) :
    val_main_v95 (F := Ideal) x0 x1 x2 x5 x6 (ix4 b r q c)
      = BlockSpec.emb (params x1 x2 x3 x4 x5 x6 x7 x8 x9 x10 x11 x12 x13 x14 x15) (image x0 b) ⟨r.val * 32 + q.val, by omega⟩ c := by
  rw [stage_v95, embedBoard_apply]
  refine congrArg (fun t => BlockSpec.embed _ _ t _ c) (funext fun n => funext fun c => ?_)
  exact normFlat_apply x0 x1 x2 b n c

/-- The tokens the second attention sees. -/
theorem tokens_read (b : Fin 4) :
    (fun n i => val_main_v156 (F := Ideal) x0 x1 x2 x5 x6 (ix3 b n i))
      = BlockSpec.emb (params x1 x2 x3 x4 x5 x6 x7 x8 x9 x10 x11 x12 x13 x14 x15) (image x0 b) := by
  funext n i
  rw [stage_v156, flat_apply, emb_read x0 x1 x2 x3 x4 x5 x6 x7 x8 x9 x10 x11 x12 x13 x14 x15, token_eq]

/-- The tokens the first attention sees. -/
theorem normed_read (b : Fin 4) :
    (fun n i => val_main_v120 (F := Ideal) x0 x1 x2 x5 x6 (ix3 b n i))
      = BlockSpec.normed (params x1 x2 x3 x4 x5 x6 x7 x8 x9 x10 x11 x12 x13 x14 x15)
          (BlockSpec.emb (params x1 x2 x3 x4 x5 x6 x7 x8 x9 x10 x11 x12 x13 x14 x15) (image x0 b)) := by
  funext n i
  rw [stage_v120, flat_apply, normBoard_apply]
  refine congrArg (fun t => BlockSpec.norm _ _ t i) (funext fun c => ?_)
  rw [emb_read x0 x1 x2 x3 x4 x5 x6 x7 x8 x9 x10 x11 x12 x13 x14 x15, token_eq]

/-- A bounded score is a real. -/
theorem score_real (s : EReal) (h : max s (-s) ≤ (528 : ℝ)) : ∃ x : ℝ, s = (x : EReal) :=
  (BlockSpec.real_of_abs_le s 528 h).imp fun _ h => h.1

variable (b : Fin 4)
  (hB : BlockSpec.Bounded (params x1 x2 x3 x4 x5 x6 x7 x8 x9 x10 x11 x12 x13 x14 x15)
    (BlockSpec.emb (params x1 x2 x3 x4 x5 x6 x7 x8 x9 x10 x11 x12 x13 x14 x15) (image x0 b)))

include hB

/-- The attention of the normalized tokens. -/
theorem first_read (n : Fin 1024) (c : Fin 384) :
    val_main_v153 (F := Ideal) x0 x1 x2 x5 x6 x7 x8 x9 (ix3 b n c)
      = BlockSpec.attend (params x1 x2 x3 x4 x5 x6 x7 x8 x9 x10 x11 x12 x13 x14 x15)
          (BlockSpec.normed (params x1 x2 x3 x4 x5 x6 x7 x8 x9 x10 x11 x12 x13 x14 x15)
            (BlockSpec.emb (params x1 x2 x3 x4 x5 x6 x7 x8 x9 x10 x11 x12 x13 x14 x15) (image x0 b))) n c := by
  have hT := normed_read x0 x1 x2 x3 x4 x5 x6 x7 x8 x9 x10 x11 x12 x13 x14 x15 b
  rw [stage_v153, attend_apply _ x7 b x8 x9 (fun h n k => score_real _ (by rw [hT]; exact hB.1 h n k)), hT]
  rfl

/-- The attention of the tokens as they are. -/
theorem second_read (n : Fin 1024) (c : Fin 384) :
    val_main_v189 (F := Ideal) x0 x1 x2 x5 x6 x7 x8 x9 (ix3 b n c)
      = BlockSpec.attend (params x1 x2 x3 x4 x5 x6 x7 x8 x9 x10 x11 x12 x13 x14 x15)
          (BlockSpec.emb (params x1 x2 x3 x4 x5 x6 x7 x8 x9 x10 x11 x12 x13 x14 x15) (image x0 b)) n c := by
  have hT := tokens_read x0 x1 x2 x3 x4 x5 x6 x7 x8 x9 x10 x11 x12 x13 x14 x15 b
  rw [stage_v189, attend_apply _ x7 b x8 x9 (fun h n k => score_real _ (by rw [hT]; exact hB.2 h n k)), hT]
  rfl

/-- The tokens after both attentions. -/
theorem mixed_read (r q : Fin 32) (c : Fin 384) :
    val_main_v216 (F := Ideal) x0 x1 x2 x5 x6 x7 x8 x9 (ix4 b r q c)
      = BlockSpec.mixed (params x1 x2 x3 x4 x5 x6 x7 x8 x9 x10 x11 x12 x13 x14 x15)
          (BlockSpec.emb (params x1 x2 x3 x4 x5 x6 x7 x8 x9 x10 x11 x12 x13 x14 x15) (image x0 b)) ⟨r.val * 32 + q.val, by omega⟩ c := by
  rw [stage_v216, addf_apply, joined_apply, normBoard_apply]
  simp only [joined_apply]
  simp only [emb_read x0 x1 x2 x3 x4 x5 x6 x7 x8 x9 x10 x11 x12 x13 x14 x15,
    first_read x0 x1 x2 x3 x4 x5 x6 x7 x8 x9 x10 x11 x12 x13 x14 x15 b hB,
    second_read x0 x1 x2 x3 x4 x5 x6 x7 x8 x9 x10 x11 x12 x13 x14 x15 b hB]
  rfl

/-- The reference's result is the block of each image. -/
theorem result_read (n : Fin 1024) (c : Fin 384) :
    val_main_v267 (F := Ideal) x0 x1 x2 x3 x4 x5 x6 x7 x8 x9 x10 x11 x12 x13 x14 x15 (ix3 b n c)
      = BlockSpec.block (params x1 x2 x3 x4 x5 x6 x7 x8 x9 x10 x11 x12 x13 x14 x15) (image x0 b) n c := by
  rw [stage_v267, back_apply, normBoard_apply, stage_v240]
  simp only [mlpBoard_apply]
  simp only [mixed_read x0 x1 x2 x3 x4 x5 x6 x7 x8 x9 x10 x11 x12 x13 x14 x15 b hB, token_eq]
  rfl

end BlockHost

end
-- ==== Proof.Bound.lean ====
/-
  The precondition read: its function compares the size of the reference's scores with 528, so where it is all ones the
  scores of both attentions of every image are bounded.
-/
module

public import proofs.«01_k».proof.Proof.HostValue
public import proofs.«01_k».proof.Pre_scores_bounded

@[expose] public section

noncomputable section

open Idealize.ShloMosaic Cert.ReferenceIdeal Cert.ReferenceIdeal.Gen Cert.ReferenceIdeal.Read

namespace BlockHost

/-- The side conditions of the precondition's operations. -/
theorem bound_facts : Cert.Pre_scores_bounded.Facts := by
  constructor <;> decide

/-- Whether the size of each score is at most 528. -/
def within (S : FVec Ideal S4x8x1024x1024 .f32) : IVec S4x8x1024x1024 1 :=
  cmpf .ole (Host.absf S) (broadcastInDim S4x8x1024x1024 ![] bcast_S_S4x8x1024x1024 (constant (F := Ideal) S_ .f32 0x44040000#32))

/-- A comparison whose bit is one holds. -/
theorem bit_true : ∀ p : Bool, BitVec.ofBool p = 1#1 → p = true := by decide

/-- Where the comparison's bit is one, the score's size is at most 528. -/
theorem within_apply (S : FVec Ideal S4x8x1024x1024 .f32) (b : Fin 4) (h : Fin 8) (n k : Fin 1024)
    (e : within S (ix4 b h n k) = 1#1) : max (S (ix4 b h n k)) (-S (ix4 b h n k)) ≤ (528 : ℝ) := by
  revert e
  pointwise [within]
  rw [BlockSpec.word_528]
  exact fun e => of_decide_eq_true (bit_true _ e)

variable (x0 : FVec Ideal S4x1024x384 .f32) (x1 x2 x3 x4 : FVec Ideal S384 .f32) (x5 : FVec Ideal S384x1x3x3 .f32)
  (x6 : FVec Ideal S384 .f32) (x7 : FVec Ideal S1152x384 .f32) (x8 : FVec Ideal S384x384 .f32) (x9 : FVec Ideal S384 .f32)
  (x10 : FVec Ideal S1536x384 .f32) (x11 : FVec Ideal S1536 .f32) (x12 : FVec Ideal S384x1536 .f32) (x13 : FVec Ideal S384 .f32)
  (x14 : FVec Ideal S384x1536 .f32) (x15 : FVec Ideal S384 .f32)

/-- The precondition's function is the conjunction of both comparisons, of the reference's scores. -/
theorem bound_eq [Cert.Pre_scores_bounded.Facts] :
    Cert.Pre_scores_bounded.fn (F := Ideal) x0 x1 x2 x3 x4 x5 x6 x7 x8 x9 x10 x11 x12 x13 x14 x15
      = andi (within (scores (val_main_v120 (F := Ideal) x0 x1 x2 x5 x6) x7))
          (within (scores (val_main_v156 (F := Ideal) x0 x1 x2 x5 x6) x7)) := rfl

/-- Two bits whose conjunction is one are one. -/
theorem both_one : ∀ x y : BitVec 1, IntOp.andi x y = 1#1 → x = 1#1 ∧ y = 1#1 := by decide

/-- Where the precondition holds, the scores of every image are bounded. -/
theorem bounded [Cert.Pre_scores_bounded.Facts]
    (hp : Cert.Pre_scores_bounded.fn (F := Ideal) x0 x1 x2 x3 x4 x5 x6 x7 x8 x9 x10 x11 x12 x13 x14 x15 = fun _ => 1#1) (b : Fin 4) :
    BlockSpec.Bounded (params x1 x2 x3 x4 x5 x6 x7 x8 x9 x10 x11 x12 x13 x14 x15)
      (BlockSpec.emb (params x1 x2 x3 x4 x5 x6 x7 x8 x9 x10 x11 x12 x13 x14 x15) (image x0 b)) := by
  rw [bound_eq] at hp
  have h1 := normed_read x0 x1 x2 x3 x4 x5 x6 x7 x8 x9 x10 x11 x12 x13 x14 x15 b
  have h2 := tokens_read x0 x1 x2 x3 x4 x5 x6 x7 x8 x9 x10 x11 x12 x13 x14 x15 b
  have hi := fun h n k => both_one _ _ (congrFun hp (ix4 b h n k))
  constructor
  · intro h n k
    have e := within_apply _ b h n k (hi h n k).1
    rw [scores_apply, h1] at e
    exact e
  · intro h n k
    have e := within_apply _ b h n k (hi h n k).2
    rw [scores_apply, h2] at e
    exact e

end BlockHost

end
-- ==== Proof.Equation.lean ====
/-
  The equation: under the precondition the kernel's result array is the array that the reference computes of the same
  arguments.
-/
module

public import proofs.«01_k».proof.Proof.Array
public import proofs.«01_k».proof.Proof.Bound

@[expose] public section

noncomputable section

open Idealize.ShloMosaic Idealize.ShloMosaic.TcCoe Idealize.SL.Sem Cert.KernelIdeal Cert.KernelIdeal.Gen

namespace BlockEquation

/-- Both arrays hold, entry by entry, the specification's block of the same tokens with the same parameters. -/
theorem result_eq (m : (ℓ : Loc nD τ sig) → Buf (Elt Ideal) ℓ) (c : Dev nD)
    [Cert.Pre_scores_bounded.Facts]
    (hp : Cert.Pre_scores_bounded.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = fun _ => 1#1) :
    (dats m 0 c).arrAt 17 cfg0.N = Cert.ReferenceIdeal.Read.val_main_v267 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have hB := BlockHost.bounded _ _ _ _ _ _ _ _ _ _ _ _ _ _ _ _ hp
  funext j
  rw [eq_ix3 j]
  exact (BlockArray.result_apply m c hB (j 0) (j 1) (j 2)).trans
    (BlockHost.result_read _ _ _ _ _ _ _ _ _ _ _ _ _ _ _ _ (j 0) (hB (j 0)) (j 1) (j 2)).symm

end BlockEquation

end
-- ==== Proof.Claims.lean ====
/-
  The claims, one theorem each: the three frames, the named constant and the kernel's equality with the reference.
-/
module

public import proofs.«01_k».proof.Proof.Array
public import proofs.«01_k».proof.Proof.Bound
public import proofs.«01_k».proof.Proof.Equation
public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent

@[expose] public section

noncomputable section

open Idealize.ShloMosaic Idealize.ShloMosaic.TcCoe Idealize.SL.Sem

namespace BlockClaims

/-- The kernel at floats runs, leaves its arguments and ends quiet. -/
theorem kernel_runs : Cert.quiescent_Kernel (hKernel := Cert.Kernel.Gen.facts) :=
  fun m ρ _ => Cert.Kernel.Gen.frame m ρ

/-- So does the kernel over the reals. -/
theorem ideal_runs : Cert.quiescent_KernelIdeal (hKernelIdeal := Cert.KernelIdeal.Gen.facts) :=
  fun m ρ _ => Cert.KernelIdeal.Gen.frame m ρ

/-- So it does where the scores are bounded. -/
theorem ideal_runs_bounded : Cert.quiescent_KernelIdeal_pre_scores_bounded
    (hKernelIdeal := Cert.KernelIdeal.Gen.facts) (hPre_scores_bounded := BlockHost.bound_facts) :=
  fun m ρ _ => Cert.KernelIdeal.Gen.frame m ρ

/-- The reference runs, leaves its arguments, and has no semaphore that could end away from zero. -/
theorem reference_runs : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- So it does where the scores are bounded. -/
theorem reference_runs_bounded : Cert.quiescent_ReferenceIdeal_pre_scores_bounded
    (hReferenceIdeal := Cert.ReferenceIdeal.Gen.facts) (hPre_scores_bounded := BlockHost.bound_facts) :=
  fun m ρ _ => reference_runs m ρ trivial

/-- The kernel's one rounded constant, the scale of the scores, stands for 1 / (√48 · log 2). -/
theorem scale_named : Cert.preserves_Kernel_KernelIdeal :=
  IdealRules.named_const.statement Cert.KernelIdeal.κ "score_scale" .f32 0x3E553B95#32
    (((Real.sqrt 48)⁻¹ * (Real.log 2)⁻¹ : ℝ) : EReal) rfl

/-- Where the scores are bounded, the kernel's result is the reference's. -/
theorem kernel_eq_reference : Cert.algebraic_KernelIdeal_ReferenceIdeal_pre_scores_bounded
    (hKernelIdeal := Cert.KernelIdeal.Gen.facts) (hReferenceIdeal := Cert.ReferenceIdeal.Gen.facts)
    (hPre_scores_bounded := BlockHost.bound_facts) := by
  intro m ρ m' ρ' hp hagree
  refine ⟨fun c => (Cert.KernelIdeal.Gen.dats m 0 c).arrAt 17 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v267_eq (StableHlo.launchContents m' c)).trans ?_
  show Cert.ReferenceIdeal.Read.val_main_v267 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15)) = _
  obtain ⟨h0, h1, h2, h3, h4, h5, h6, h7, h8, h9, h10, h11, h12, h13, h14, h15⟩ := hagree c
  rw [h0, h1, h2, h3, h4, h5, h6, h7, h8, h9, h10, h11, h12, h13, h14, h15]
  exact (@BlockEquation.result_eq m c BlockHost.bound_facts (hp c)).symm

end BlockClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, BlockHost.bound_facts,
    BlockClaims.kernel_runs, BlockClaims.ideal_runs, BlockClaims.ideal_runs_bounded, BlockClaims.reference_runs,
    BlockClaims.reference_runs_bounded, BlockClaims.scale_named, BlockClaims.kernel_eq_reference⟩

end Cert.Proof

end
